-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x32 : Shape := ⟨2, ![12, 32]⟩
abbrev S32x2048 : Shape := ⟨2, ![32, 2048]⟩
abbrev S1x1024 : Shape := ⟨2, ![1, 1024]⟩
abbrev S32x1024 : Shape := ⟨2, ![32, 1024]⟩
abbrev S12x2048 : Shape := ⟨2, ![12, 2048]⟩
abbrev S12x32768 : Shape := ⟨2, ![12, 32768]⟩
abbrev S12x128x384 : Shape := ⟨3, ![12, 128, 384]⟩
abbrev S12x32x1024 : Shape := ⟨3, ![12, 32, 1024]⟩
abbrev S12x8x4x1024 : Shape := ⟨4, ![12, 8, 4, 1024]⟩
abbrev S1x12x2048x2048 : Shape := ⟨4, ![1, 12, 2048, 2048]⟩
abbrev S12x1 : Shape := ⟨2, ![12, 1]⟩
abbrev S12x1024 : Shape := ⟨2, ![12, 1024]⟩
abbrev S12x256 : Shape := ⟨2, ![12, 256]⟩
abbrev S12x128 : Shape := ⟨2, ![12, 128]⟩
abbrev S12x1x128 : Shape := ⟨3, ![12, 1, 128]⟩
abbrev S12x8x128 : Shape := ⟨3, ![12, 8, 128]⟩
abbrev S12x1x4x1024 : Shape := ⟨4, ![12, 1, 4, 1024]⟩
abbrev S1x12x128x2048 : Shape := ⟨4, ![1, 12, 128, 2048]⟩
abbrev S12x1x1 : Shape := ⟨3, ![12, 1, 1]⟩
abbrev S12x128x1024 : Shape := ⟨3, ![12, 128, 1024]⟩
abbrev S1x12x128x1024 : Shape := ⟨4, ![1, 12, 128, 1024]⟩
abbrev S1x1x1024 : Shape := ⟨3, ![1, 1, 1024]⟩
abbrev S12x1x1024 : Shape := ⟨3, ![12, 1, 1024]⟩
abbrev S12x128x128 : Shape := ⟨3, ![12, 128, 128]⟩
abbrev S1x12x128x128 : Shape := ⟨4, ![1, 12, 128, 128]⟩
abbrev S12x1x1x1024 : Shape := ⟨4, ![12, 1, 1, 1024]⟩
abbrev S1x12x32x1024 : Shape := ⟨4, ![1, 12, 32, 1024]⟩

abbrev nBuf : Space → Nat
  | .hbm => 14
  | .vmem => 18
  | .smem => 0
  | _ => 0

abbrev bufTy : (tb : Table) → Fin (tcTables nBuf tb) → BufTy
  | .hbm, ⟨0, _⟩ => ⟨S12x32, .f32⟩
  | .hbm, ⟨1, _⟩ => ⟨S12x32, .f32⟩
  | .hbm, ⟨2, _⟩ => ⟨S12x32, .f32⟩
  | .hbm, ⟨3, _⟩ => ⟨S32x2048, .f32⟩
  | .hbm, ⟨4, _⟩ => ⟨S1x1024, .i32⟩
  | .hbm, ⟨5, _⟩ => ⟨S32x1024, .f32⟩
  | .hbm, ⟨6, _⟩ => ⟨S32x1024, .f32⟩
  | .hbm, ⟨7, _⟩ => ⟨S12x2048, .f32⟩
  | .hbm, ⟨8, _⟩ => ⟨S12x32768, .f32⟩
  | .hbm, ⟨9, _⟩ => ⟨S12x32768, .f32⟩
  | .hbm, ⟨10, _⟩ => ⟨S12x128x384, .f32⟩
  | .hbm, ⟨11, _⟩ => ⟨S12x32x1024, .f32⟩
  | .hbm, ⟨12, _⟩ => ⟨S12x8x4x1024, .f32⟩
  | .hbm, ⟨13, _⟩ => ⟨S1x12x2048x2048, .f32⟩
  | .local _ .vmem, ⟨0, _⟩ => ⟨S12x32, .f32⟩
  | .local _ .vmem, ⟨1, _⟩ => ⟨S12x32, .f32⟩
  | .local _ .vmem, ⟨2, _⟩ => ⟨S12x32, .f32⟩
  | .local _ .vmem, ⟨3, _⟩ => ⟨S32x2048, .f32⟩
  | .local _ .vmem, ⟨4, _⟩ => ⟨S1x1024, .i32⟩
  | .local _ .vmem, ⟨5, _⟩ => ⟨S32x1024, .f32⟩
  | .local _ .vmem, ⟨6, _⟩ => ⟨S32x1024, .f32⟩
  | .local _ .vmem, ⟨7, _⟩ => ⟨S12x2048, .f32⟩
  | .local _ .vmem, ⟨8, _⟩ => ⟨S12x32768, .f32⟩
  | .local _ .vmem, ⟨9, _⟩ => ⟨S12x32768, .f32⟩
  | .local _ .vmem, ⟨10, _⟩ => ⟨S12x128x384, .f32⟩
  | .local _ .vmem, ⟨11, _⟩ => ⟨S12x2048, .f32⟩
  | .local _ .vmem, ⟨12, _⟩ => ⟨S12x32x1024, .f32⟩
  | .local _ .vmem, ⟨13, _⟩ => ⟨S12x1x4x1024, .f32⟩
  | .local _ .vmem, ⟨14, _⟩ => ⟨S12x1x4x1024, .f32⟩
  | .local _ .vmem, ⟨15, _⟩ => ⟨S12x128x384, .f32⟩
  | .local _ .vmem, ⟨16, _⟩ => ⟨S1x12x128x2048, .f32⟩
  | .local _ .vmem, ⟨17, _⟩ => ⟨S1x12x128x2048, .f32⟩
  | _, _ => ⟨S12x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_c : Ref sig .tc := ⟨.hbm, 4, rfl⟩
abbrev main_call0_cst_0 : Ref sig .tc := ⟨.hbm, 5, rfl⟩
abbrev main_call0_cst_1 : Ref sig .tc := ⟨.hbm, 6, rfl⟩
abbrev main_call0_v0_0 : Ref sig .tc := ⟨.hbm, 7, rfl⟩
abbrev main_call0_v0_1 : Ref sig .tc := ⟨.hbm, 8, rfl⟩
abbrev main_call0_v0_2 : Ref sig .tc := ⟨.hbm, 9, rfl⟩
abbrev main_call0_v0_3 : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := .none

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x32768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x32768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![16], ![false]⟩

def k1_cond1 (i : grid1.Coords) : BitVec 1 :=
  let arg0 : BitVec 32 := BitVec.ofNat 32 (i 0).val
  let c8_i32 : BitVec 32 := 8#32
  let v5 : BitVec 1 := Scalar.cmpi .slt arg0 c8_i32
  let v6 : BitVec 32 := Scalar.extui v5
  let c0_i32 : BitVec 32 := 0#32
  let v7 : BitVec 1 := Scalar.cmpi .ne v6 c0_i32
  v7

def k1_cond2 (i : grid1.Coords) : BitVec 1 :=
  let arg0 : BitVec 32 := BitVec.ofNat 32 (i 0).val
  let c_m1_i32 : BitVec 32 := 4294967295#32
  let v36 : BitVec 32 := Scalar.addi arg0 c_m1_i32
  let c0_i32_12 : BitVec 32 := 0#32
  let v37 : BitVec 1 := Scalar.cmpi .sge v36 c0_i32_12
  let c_m1_i32_13 : BitVec 32 := 4294967295#32
  let v38 : BitVec 32 := Scalar.addi arg0 c_m1_i32_13
  let c8_i32_14 : BitVec 32 := 8#32
  let v39 : BitVec 1 := Scalar.cmpi .slt v38 c8_i32_14
  let v40 : BitVec 1 := Scalar.andi v37 v39
  let v41 : BitVec 32 := Scalar.extui v40
  let c0_i32_15 : BitVec 32 := 0#32
  let v42 : BitVec 1 := Scalar.cmpi .ne v41 c0_i32_15
  v42

def k1_off1 (i : grid1.Coords) : Fin 4 → Nat :=
  let c0_30 : Index := 0#32
  let c0_31 : Index := 0#32
  let c0_32 : Index := 0#32
  let c128_i32_29 : BitVec 32 := 128#32
  let arg0 : BitVec 32 := BitVec.ofNat 32 (i 0).val
  let c_m1_i32_28 : BitVec 32 := 4294967295#32
  let v59 : BitVec 32 := Scalar.addi arg0 c_m1_i32_28
  let v60 : BitVec 32 := Scalar.muli c128_i32_29 v59
  let v61 : Index := Scalar.indexCast v60
  ![0, 0, 0, v61.toNat]
def k1_cond3 (i : grid1.Coords) : BitVec 1 :=
  let arg0 : BitVec 32 := BitVec.ofNat 32 (i 0).val
  let c0_i32_16 : BitVec 32 := 0#32
  let v43 : BitVec 32 := Scalar.addi arg0 c0_i32_16
  let c0_i32_17 : BitVec 32 := 0#32
  let v44 : BitVec 1 := Scalar.cmpi .sge v43 c0_i32_17
  let c0_i32_18 : BitVec 32 := 0#32
  let v45 : BitVec 32 := Scalar.addi arg0 c0_i32_18
  let c8_i32_19 : BitVec 32 := 8#32
  let v46 : BitVec 1 := Scalar.cmpi .slt v45 c8_i32_19
  let v47 : BitVec 1 := Scalar.andi v44 v46
  let v48 : BitVec 32 := Scalar.extui v47
  let c0_i32_20 : BitVec 32 := 0#32
  let v49 : BitVec 1 := Scalar.cmpi .ne v48 c0_i32_20
  v49

def k1_off2 (i : grid1.Coords) : Fin 4 → Nat :=
  let c0_29 : Index := 0#32
  let c0_30 : Index := 0#32
  let c0_31 : Index := 0#32
  let c128_i32_28 : BitVec 32 := 128#32
  let arg0 : BitVec 32 := BitVec.ofNat 32 (i 0).val
  let c0_i32_27 : BitVec 32 := 0#32
  let v59 : BitVec 32 := Scalar.addi arg0 c0_i32_27
  let v60 : BitVec 32 := Scalar.muli c128_i32_28 v59
  let v61 : Index := Scalar.indexCast v60
  ![0, 0, 0, v61.toNat]
def k1_cond4 (i : grid1.Coords) : BitVec 1 :=
  let arg0 : BitVec 32 := BitVec.ofNat 32 (i 0).val
  let c1_i32 : BitVec 32 := 1#32
  let v50 : BitVec 32 := Scalar.addi arg0 c1_i32
  let c0_i32_21 : BitVec 32 := 0#32
  let v51 : BitVec 1 := Scalar.cmpi .sge v50 c0_i32_21
  let c1_i32_22 : BitVec 32 := 1#32
  let v52 : BitVec 32 := Scalar.addi arg0 c1_i32_22
  let c8_i32_23 : BitVec 32 := 8#32
  let v53 : BitVec 1 := Scalar.cmpi .slt v52 c8_i32_23
  let v54 : BitVec 1 := Scalar.andi v51 v53
  let v55 : BitVec 32 := Scalar.extui v54
  let c0_i32_24 : BitVec 32 := 0#32
  let v56 : BitVec 1 := Scalar.cmpi .ne v55 c0_i32_24
  v56

def k1_off3 (i : grid1.Coords) : Fin 4 → Nat :=
  let c0_29 : Index := 0#32
  let c0_30 : Index := 0#32
  let c0_31 : Index := 0#32
  let c128_i32_28 : BitVec 32 := 128#32
  let arg0 : BitVec 32 := BitVec.ofNat 32 (i 0).val
  let c1_i32_27 : BitVec 32 := 1#32
  let v59 : BitVec 32 := Scalar.addi arg0 c1_i32_27
  let v60 : BitVec 32 := Scalar.muli c128_i32_28 v59
  let v61 : Index := Scalar.indexCast v60
  ![0, 0, 0, v61.toNat]
def k1_cond5 (i : grid1.Coords) : BitVec 1 :=
  let arg0 : BitVec 32 := BitVec.ofNat 32 (i 0).val
  let c8_i32_0 : BitVec 32 := 8#32
  let v8 : BitVec 1 := Scalar.cmpi .sge arg0 c8_i32_0
  let v9 : BitVec 32 := Scalar.extui v8
  let c0_i32_1 : BitVec 32 := 0#32
  let v10 : BitVec 1 := Scalar.cmpi .ne v9 c0_i32_1
  v10

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 4 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 1 → Memref sig .tc .vmem S12x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12x32x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S12x1x4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S12x128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x12x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S12x32 : Shape := ⟨2, ![12, 32]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S12x2048x2048 : Shape := ⟨3, ![12, 2048, 2048]⟩
abbrev S1x12x2048x2048 : Shape := ⟨4, ![1, 12, 2048, 2048]⟩

abbrev nBuf : Space → Nat
  | .hbm => 180
  | .vmem => 0
  | .smem => 0
  | _ => 0

abbrev hbmTy0_0 (i : Nat) : BufTy := match i % 128 with
  | 0 => ⟨S12x32, .f32⟩
  | 1 => ⟨S12x32, .f32⟩
  | 2 => ⟨S12x32, .f32⟩
  | 3 => ⟨S2048, .i32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S2048, .i1⟩
  | 20 => ⟨S2048, .i1⟩
  | 21 => ⟨S2048x1, .i1⟩
  | 22 => ⟨S1x2048, .i1⟩
  | 23 => ⟨S2048x2048, .i1⟩
  | 24 => ⟨S2048x2048, .i1⟩
  | 25 => ⟨S2048x2048, .i1⟩
  | 26 => ⟨S1x2048, .i32⟩
  | 27 => ⟨S2048x1, .i32⟩
  | 28 => ⟨S2048x2048, .i32⟩
  | 29 => ⟨S2048x2048, .i32⟩
  | 30 => ⟨S2048x2048, .i32⟩
  | 31 => ⟨S_, .i32⟩
  | 32 => ⟨S_, .i32⟩
  | 33 => ⟨S2048x2048, .i32⟩
  | 34 => ⟨S2048x2048, .i32⟩
  | 35 => ⟨S2048x2048, .i32⟩
  | 36 => ⟨S_, .i32⟩
  | 37 => ⟨S2048x2048, .i32⟩
  | 38 => ⟨S2048x2048, .i1⟩
  | 39 => ⟨S2048x2048, .i32⟩
  | 40 => ⟨S_, .i32⟩
  | 41 => ⟨S2048x2048, .i32⟩
  | 42 => ⟨S2048x2048, .i32⟩
  | 43 => ⟨S2048x2048, .i32⟩
  | 44 => ⟨S_, .i32⟩
  | 45 => ⟨S2048x2048, .i32⟩
  | 46 => ⟨S2048x2048, .i1⟩
  | 47 => ⟨S2048x2048, .f32⟩
  | 48 => ⟨S_, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .f32⟩
  | 55 => ⟨S_, .f32⟩
  | 56 => ⟨S_, .f32⟩
  | 57 => ⟨S2048x2048, .f32⟩
  | 58 => ⟨S2048x2048, .f32⟩
  | 59 => ⟨S_, .f32⟩
  | 60 => ⟨S2048x2048, .f32⟩
  | 61 => ⟨S2048x2048, .f32⟩
  | 62 => ⟨S2048x2048, .i32⟩
  | 63 => ⟨S_, .i32⟩
  | 64 => ⟨S2048x2048, .i32⟩
  | 65 => ⟨S2048x2048, .i32⟩
  | 66 => ⟨S_, .i32⟩
  | 67 => ⟨S2048x2048, .i32⟩
  | 68 => ⟨S2048x2048, .i32⟩
  | 69 => ⟨S2048x2048, .i32⟩
  | 70 => ⟨S2048x2048, .i32⟩
  | 71 => ⟨S2048x2048x1, .i32⟩
  | 72 => ⟨S12x2048x2048, .f32⟩
  | 73 => ⟨S2048x1, .i1⟩
  | 74 => ⟨S1x2048, .i1⟩
  | 75 => ⟨S2048x2048, .i1⟩
  | 76 => ⟨S2048x2048, .i1⟩
  | 77 => ⟨S2048x2048, .i1⟩
  | 78 => ⟨S1x2048, .i32⟩
  | 79 => ⟨S2048x1, .i32⟩
  | 80 => ⟨S2048x2048, .i32⟩
  | 81 => ⟨S2048x2048, .i32⟩
  | 82 => ⟨S2048x2048, .i32⟩
  | 83 => ⟨S_, .i32⟩
  | 84 => ⟨S_, .i32⟩
  | 85 => ⟨S2048x2048, .i32⟩
  | 86 => ⟨S2048x2048, .i32⟩
  | 87 => ⟨S2048x2048, .i32⟩
  | 88 => ⟨S_, .i32⟩
  | 89 => ⟨S2048x2048, .i32⟩
  | 90 => ⟨S2048x2048, .i1⟩
  | 91 => ⟨S2048x2048, .i32⟩
  | 92 => ⟨S_, .i32⟩
  | 93 => ⟨S2048x2048, .i32⟩
  | 94 => ⟨S2048x2048, .i32⟩
  | 95 => ⟨S2048x2048, .i32⟩
  | 96 => ⟨S_, .i32⟩
  | 97 => ⟨S2048x2048, .i32⟩
  | 98 => ⟨S2048x2048, .i1⟩
  | 99 => ⟨S2048x2048, .f32⟩
  | 100 => ⟨S_, .f32⟩
  | 101 => ⟨S2048x2048, .f32⟩
  | 102 => ⟨S2048x2048, .f32⟩
  | 103 => ⟨S_, .f32⟩
  | 104 => ⟨S2048x2048, .f32⟩
  | 105 => ⟨S2048x2048, .f32⟩
  | 106 => ⟨S2048x2048, .f32⟩
  | 107 => ⟨S_, .f32⟩
  | 108 => ⟨S_, .f32⟩
  | 109 => ⟨S2048x2048, .f32⟩
  | 110 => ⟨S2048x2048, .f32⟩
  | 111 => ⟨S_, .f32⟩
  | 112 => ⟨S2048x2048, .f32⟩
  | 113 => ⟨S2048x2048, .f32⟩
  | 114 => ⟨S2048x2048, .i32⟩
  | 115 => ⟨S_, .i32⟩
  | 116 => ⟨S2048x2048, .i32⟩
  | 117 => ⟨S2048x2048, .i32⟩
  | 118 => ⟨S_, .i32⟩
  | 119 => ⟨S2048x2048, .i32⟩
  | 120 => ⟨S2048x2048, .i32⟩
  | 121 => ⟨S2048x2048, .i32⟩
  | 122 => ⟨S2048x2048, .i32⟩
  | 123 => ⟨S2048x2048x1, .i32⟩
  | 124 => ⟨S12x2048x2048, .f32⟩
  | 125 => ⟨S2048x1, .i1⟩
  | 126 => ⟨S1x2048, .i1⟩
  | 127 => ⟨S2048x2048, .i1⟩
  | _ => ⟨S12x32, .f32⟩

abbrev hbmTy0_1 (i : Nat) : BufTy := match i % 128 with
  | 0 => ⟨S2048x2048, .i1⟩
  | 1 => ⟨S2048x2048, .i1⟩
  | 2 => ⟨S1x2048, .i32⟩
  | 3 => ⟨S2048x1, .i32⟩
  | 4 => ⟨S2048x2048, .i32⟩
  | 5 => ⟨S2048x2048, .i32⟩
  | 6 => ⟨S2048x2048, .i32⟩
  | 7 => ⟨S_, .i32⟩
  | 8 => ⟨S_, .i32⟩
  | 9 => ⟨S2048x2048, .i32⟩
  | 10 => ⟨S2048x2048, .i32⟩
  | 11 => ⟨S2048x2048, .i32⟩
  | 12 => ⟨S_, .i32⟩
  | 13 => ⟨S2048x2048, .i32⟩
  | 14 => ⟨S2048x2048, .i1⟩
  | 15 => ⟨S2048x2048, .i32⟩
  | 16 => ⟨S_, .i32⟩
  | 17 => ⟨S2048x2048, .i32⟩
  | 18 => ⟨S2048x2048, .i32⟩
  | 19 => ⟨S2048x2048, .i32⟩
  | 20 => ⟨S_, .i32⟩
  | 21 => ⟨S2048x2048, .i32⟩
  | 22 => ⟨S2048x2048, .i1⟩
  | 23 => ⟨S2048x2048, .f32⟩
  | 24 => ⟨S_, .f32⟩
  | 25 => ⟨S2048x2048, .f32⟩
  | 26 => ⟨S2048x2048, .f32⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S_, .f32⟩
  | 33 => ⟨S2048x2048, .f32⟩
  | 34 => ⟨S2048x2048, .f32⟩
  | 35 => ⟨S_, .f32⟩
  | 36 => ⟨S2048x2048, .f32⟩
  | 37 => ⟨S2048x2048, .f32⟩
  | 38 => ⟨S2048x2048, .i32⟩
  | 39 => ⟨S_, .i32⟩
  | 40 => ⟨S2048x2048, .i32⟩
  | 41 => ⟨S2048x2048, .i32⟩
  | 42 => ⟨S_, .i32⟩
  | 43 => ⟨S2048x2048, .i32⟩
  | 44 => ⟨S2048x2048, .i32⟩
  | 45 => ⟨S2048x2048, .i32⟩
  | 46 => ⟨S2048x2048, .i32⟩
  | 47 => ⟨S2048x2048x1, .i32⟩
  | 48 => ⟨S12x2048x2048, .f32⟩
  | 49 => ⟨S12x2048x2048, .f32⟩
  | 50 => ⟨S12x2048x2048, .f32⟩
  | 51 => ⟨S1x12x2048x2048, .f32⟩
  | _ => ⟨S12x32, .f32⟩

abbrev hbmTy (i : Nat) : BufTy := match i / 128 with
  | 0 => hbmTy0_0 i
  | 1 => hbmTy0_1 i
  | _ => ⟨S12x32, .f32⟩

abbrev bufTy : (tb : Table) → Fin (tcTables nBuf tb) → BufTy
  | .hbm, ⟨i, _⟩ => hbmTy i
  | _, _ => ⟨S12x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_c_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_call2_v0 : Ref sig .tc := ⟨.hbm, 84, rfl⟩
abbrev main_call2_v1 : Ref sig .tc := ⟨.hbm, 85, rfl⟩
abbrev main_v63 : Ref sig .tc := ⟨.hbm, 86, rfl⟩
abbrev main_v64 : Ref sig .tc := ⟨.hbm, 87, rfl⟩
abbrev main_c_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_17 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_19 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_20 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_21 : Ref sig .tc := ⟨.hbm, 115, rfl⟩
abbrev main_v85 : Ref sig .tc := ⟨.hbm, 116, rfl⟩
abbrev main_v86 : Ref sig .tc := ⟨.hbm, 117, rfl⟩
abbrev main_c_22 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_23 : Ref sig .tc := ⟨.hbm, 135, rfl⟩
abbrev main_call4_v0 : Ref sig .tc := ⟨.hbm, 136, rfl⟩
abbrev main_call4_v1 : Ref sig .tc := ⟨.hbm, 137, rfl⟩
abbrev main_v103 : Ref sig .tc := ⟨.hbm, 138, rfl⟩
abbrev main_v104 : Ref sig .tc := ⟨.hbm, 139, rfl⟩
abbrev main_c_24 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_25 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_26 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_27 : Ref sig .tc := ⟨.hbm, 152, rfl⟩
abbrev main_v114 : Ref sig .tc := ⟨.hbm, 153, rfl⟩
abbrev main_v115 : Ref sig .tc := ⟨.hbm, 154, rfl⟩
abbrev main_cst_28 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_29 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_30 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_31 : Ref sig .tc := ⟨.hbm, 167, rfl⟩
abbrev main_v125 : Ref sig .tc := ⟨.hbm, 168, rfl⟩
abbrev main_v126 : Ref sig .tc := ⟨.hbm, 169, rfl⟩
abbrev main_c_32 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩

abbrev nD : Nat := 1
abbrev τ : Topo := Topo.v7x

variable {F : FTy → Type} [FloatOps F]
-- ==== Proof.SameText.lean ====
/- The two printed kernels are the same program. `Kernel` and `KernelIdeal` are printed from one module, and no operation was
   rewritten between them, so a run of the one is a run of the other at the same float type. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The two body tables agree label by label. -/
theorem bodies_agree : @Cert.Kernel.defs₀ F _ Cert.Kernel.Gen.facts
    = @Cert.KernelIdeal.defs₀ F _ Cert.KernelIdeal.Gen.facts := by
  funext pr l a
  cases pr with
  | tc => match l, a with
    | ⟨0, _⟩, (t, s) => rfl
    | ⟨1, _⟩, (t, s) => rfl
  | _ => rfl

/-- The two whole tables, pipelines included, agree. -/
theorem tables_agree : @Cert.Kernel.defs F _ Cert.Kernel.Gen.facts
    = @Cert.KernelIdeal.defs F _ Cert.KernelIdeal.Gen.facts :=
  congrArg (Pipeline.defs (Cert.KernelIdeal.pcfgs (F := F) )) bodies_agree

/-- What a launch of `KernelIdeal` is shown to end in, at `F`: arguments as they were, every counter at zero. -/
def KeepsArguments (F : FTy → Type) [FloatOps F] : Prop :=
  letI := Cert.KernelIdeal.Gen.facts
  ∀ (m : (ℓ : Loc Cert.KernelIdeal.nD Cert.KernelIdeal.τ Cert.KernelIdeal.sig) → Buf (Elt F) ℓ)
    (g : Dev Cert.KernelIdeal.nD → PrngReg),
    θ_run (Cert.KernelIdeal.defs (F := F)) (onTc (τ := Cert.KernelIdeal.τ) (Cert.KernelIdeal.main (F := F)))
      ⟨m, fun _ => 0, g⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0)

/-- The frame of `Kernel` from that of `KernelIdeal`, read at `Bits`. -/
theorem kernel_of_ideal_text (h : KeepsArguments Bits) : Cert.quiescent_Kernel (hKernel := Cert.Kernel.Gen.facts) := by
  intro m g _
  rw [tables_agree]
  exact h m g

end Cert.Proof

end
-- ==== Proof.BuildValues.lean ====
/- What the first kernel (`_build_kernel`) leaves in its four output buffers, as functions of its seven input blocks, and
   why each of its stores writes the piece of that function which lies under it. The functions are stated at any float type;
   nothing here is about real numbers. -/
module

public import proofs.«01_k».proof.Proof.Gen.KernelIdeal.Skeleton
public import Idealize.ShloMosaic.Lib.Pipeline.FrameBody
public import Idealize.ShloMosaic.Lib.Pipeline.Value
public import Idealize.ShloMosaic.Lib.Pointwise.Index

@[expose] public section

noncomputable section

namespace Cert.Proof.Build

open Idealize.ShloMosaic Idealize.SL.Sem Cert.KernelIdeal Cert.KernelIdeal.Gen

variable {F : FTy → Type} [FloatOps F]

/-! ## The distance row -/

/-- Column `k` of a table. -/
abbrev col (t : Vec F S12x32 .f32) (k : ℕ) (hk : k < 32 := by decide) : Vec F S12x1 .f32 :=
  View.ld t (Rect.unit (s := S12x32) ![0, k] S12x1.size
    (fun a => match a with
      | ⟨0, _⟩ => by show 0 + 12 ≤ 12; omega
      | ⟨1, _⟩ => by show k + 1 ≤ 32; omega))

/-- The row of biases over the distances: the first table times the distances' one-hot columns, plus the other two
    tables' entries at distance zero. -/
def distRow (t0 t1 t2 : Vec F S12x32 .f32) (w : Vec F S32x2048 .f32) : Vec F S12x2048 .f32 :=
  k0_pay3 t0 w (col t1 0) (col t2 0)

/-! ## Picking a table column by its number -/

/-- The column of `tab` whose number below `n` the index vector names at `j`, and the zero constant if it names none. -/
def pickBelow (tab : Vec F S12x32 .f32) (x : Vec F S1x1024 .i32) (h : Fin 12) (j : Fin 1024) : ℕ → F .f32
  | 0 => Scalar.ofBits .f32 0x00000000#32
  | n + 1 => if x (ix2 (n0 := 1) (n1 := 1024) 0 j) = BitVec.ofNat 32 n
      then tab (ix2 (n0 := 12) (n1 := 32) h ⟨n % 32, Nat.mod_lt _ (by decide)⟩) else pickBelow tab x h j n

/-- A table's column spread over the row of lanes. -/
theorem col_spread (n : ℕ) (hn : n < 32) (tab : Vec F S12x32 .f32)
    (inb : ∀ a, (![0, n] : Fin 2 → Nat) a + S12x1.size a ≤ S12x32.size a) (y : S12x1024.Idx) :
    broadcastTo S12x1024 (View.ld tab (Rect.unit (s := S12x32) ![0, n] S12x1.size inb)) broadcasts_S12x1_S12x1024 y
      = tab (ix2 (n0 := 12) (n1 := 32) (y 0) ⟨n % 32, Nat.mod_lt _ (by decide)⟩) := by
  refine (broadcastTo_apply _ broadcasts_S12x1_S12x1024 y (ix2 (n0 := 12) (n1 := 1) (y 0) 0)
    (fun a => match a with | ⟨0, _⟩ => rfl | ⟨1, _⟩ => rfl)).trans ?_
  refine (congrFun (View.ld_unit _ _ _ inb) _).trans ?_
  exact extractStridedSlice_apply _ _ _ _ _ (fun a => match a with
    | ⟨0, _⟩ => (Nat.zero_add _).symm
    | ⟨1, _⟩ => by show n % 32 = n + 0; omega)

/-- The same with the identity cast that the program writes before it. -/
theorem col_spread_cast (n : ℕ) (hn : n < 32) (tab : Vec F S12x32 .f32)
    (inb : ∀ a, (![0, n] : Fin 2 → Nat) a + S12x1.size a ≤ S12x32.size a) (y : S12x1024.Idx) :
    broadcastTo S12x1024 (shapeCast S12x1 (View.ld tab (Rect.unit (s := S12x32) ![0, n] S12x1.size inb))
      shapeCasts_S12x1_S12x1) broadcasts_S12x1_S12x1024 y
      = tab (ix2 (n0 := 12) (n1 := 32) (y 0) ⟨n % 32, Nat.mod_lt _ (by decide)⟩) :=
  (congrFun (congrArg (fun v => broadcastTo S12x1024 v broadcasts_S12x1_S12x1024)
    (shapeCast_self (s := S12x1) (View.ld tab (Rect.unit (s := S12x32) ![0, n] S12x1.size inb)) shapeCasts_S12x1_S12x1)) y).trans
    (col_spread n hn tab inb y)

/-- The comparison with a column's number, spread over the heads. -/
theorem cond_spread (n : ℕ) (x : Vec F S1x1024 .i32) (y : S12x1024.Idx) :
    broadcastTo S12x1024 (shapeCast S1x1024 (cmpi .eq x (broadcast S1x1024 (BitVec.ofNat 32 n)))
      shapeCasts_S1x1024_S1x1024) broadcasts_S1x1024_S12x1024 y
      = IntOp.cmpi .eq (x (ix2 (n0 := 1) (n1 := 1024) 0 (y 1))) (BitVec.ofNat 32 n) :=
  (congrFun (congrArg (fun v => broadcastTo S12x1024 v broadcasts_S1x1024_S12x1024) (shapeCast_self _ _)) y).trans
    (broadcastTo_apply _ broadcasts_S1x1024_S12x1024 y (ix2 (n0 := 1) (n1 := 1024) 0 (y 1))
      (fun a => match a with | ⟨0, _⟩ => rfl | ⟨1, _⟩ => rfl))

theorem cmpi_eq_one (a b : BitVec 32) : IntOp.cmpi .eq a b = 1 ↔ a = b := by
  show BitVec.ofBool (a == b) = 1 ↔ a = b
  rw [← beq_iff_eq (a := a)]
  cases (a == b) <;> decide

/-- One selection of the printed chain, over what the earlier ones left. -/
theorem pick_step (n : ℕ) (tab : Vec F S12x32 .f32) (x : Vec F S1x1024 .i32) (cv : IVec S12x1024 1)
    (cl acc : FVec F S12x1024 .f32) (y : S12x1024.Idx)
    (hcond : cv y = IntOp.cmpi .eq (x (ix2 (n0 := 1) (n1 := 1024) 0 (y 1))) (BitVec.ofNat 32 n))
    (hcol : cl y = tab (ix2 (n0 := 12) (n1 := 32) (y 0) ⟨n % 32, Nat.mod_lt _ (by decide)⟩))
    (hacc : acc y = pickBelow tab x (y 0) (y 1) n) :
    select cv cl acc y = pickBelow tab x (y 0) (y 1) (n + 1) := by
  show Scalar.select _ _ _ = _
  rw [hcond, hcol, hacc]
  exact if_congr (cmpi_eq_one _ _) rfl rfl

/-! ## The two tables of the image's axes -/

/-- The second table's entries by bucket, plus the first one's at distance zero: 32 rows of 32, side by side. -/
def rowPart (t0 t1 : Vec F S12x32 .f32) (x : Vec F S1x1024 .i32) : FVec F S12x1024 .f32 :=
  fun y => FloatOps.addf (pickBelow t1 x (y 0) (y 1) 32) (t0 (ix2 (n0 := 12) (n1 := 32) (y 0) 0))

/-- The third table's entries by bucket. -/
def colPart (t2 : Vec F S12x32 .f32) (x : Vec F S1x1024 .i32) : FVec F S12x1024 .f32 :=
  fun y => pickBelow t2 x (y 0) (y 1) 32

/-- The chain of selections on the second table, as the program composes it. -/
theorem rowPart_chain (t0 t1 : Vec F S12x32 .f32) (x : Vec F S1x1024 .i32) :
    k0_pay64 x (k0_pay59 x (k0_pay53 x (k0_pay48 x (k0_pay43 x (k0_pay35 x (k0_pay30 x (k0_pay24 x (k0_pay18 x
      (k0_pay12 x (k0_pay7 x (col t1 0) (col t1 1)) (col t1 2) (col t1 3) (col t1 4)) (col t1 5) (col t1 6) (col t1 7))
      (col t1 8) (col t1 9) (col t1 10)) k0_pay26 (col t1 11) (col t1 12) (col t1 13)) (k0_pay32 x) (col t1 14)
      (col t1 15) (col t1 16)) (col t1 17) (k0_pay38 x) (col t1 18) (col t1 19) (col t1 20)) (col t1 21) (col t1 22)
      (col t1 23)) (col t1 24) (col t1 25) (col t1 26)) (col t1 27) (col t1 28) (col t1 29)) 30#32 (col t1 30)
      (col t1 31) (col t0 0) = rowPart t0 t1 x := by
  funext y
  refine congrArg₂ FloatOps.addf ?_ ?_
  · iterate 32 refine pick_step _ _ _ _ _ _ _ (cond_spread _ _ _) (col_spread_cast _ (by decide) _ _ _) ?_
    rfl
  · exact col_spread 0 (by decide) t0 _ y

/-- The chain of selections on the third table, as the program composes it. -/
theorem colPart_chain (t2 : Vec F S12x32 .f32) (x : Vec F S1x1024 .i32) :
    k0_pay63 x (k0_pay60 x (k0_pay51 x (k0_pay46 x (k0_pay41 x (k0_pay36 x (k0_pay31 x (k0_pay25 x (k0_pay16 x
      (k0_pay10 x (k0_pay5 x (col t2 0)) (k0_pay6 x) (col t2 1) (col t2 2) (col t2 3)) (col t2 4) (k0_pay13 x) (col t2 5)
      (col t2 6)) (k0_pay19 x) (k0_pay20 (col t2 7)) (col t2 8) (col t2 9) (col t2 10)) k0_pay26 (col t2 11) (col t2 12)
      (col t2 13)) (k0_pay32 x) (col t2 14) (col t2 15) (col t2 16)) (k0_pay37 x) (col t2 17) (col t2 18) (col t2 19))
      (k0_pay42 x) (col t2 20) (col t2 21) (col t2 22)) (k0_pay47 x) (col t2 23) (col t2 24) (col t2 25)) (k0_pay54 x)
      (k0_pay55 (col t2 26)) (col t2 27) (col t2 28) (col t2 29)) 30#32 (col t2 30) (col t2 31) = colPart t2 x := by
  funext y
  iterate 32 refine pick_step _ _ _ _ _ _ _ (cond_spread _ _ _) (col_spread_cast _ (by decide) _ _ _) ?_
  rfl

/-! ## A row of tiles -/

/-- Tile `r` (1024 columns) is the product of columns `32 r … 32 r + 31` of `a` with `w`. -/
def tileRow (a : FVec F S12x1024 .f32) (w : Vec F S32x1024 .f32) : Vec F S12x32768 .f32 := fun y =>
  matmul dot_S12x32_S32x1024_S12x1024_1_0_0_1_n_n (some .fp32)
    (fun z : S12x32.Idx => a (ix2 (n0 := 12) (n1 := 1024) (z 0)
      ⟨32 * ((y 1).val / 1024) + (z 1).val, by
        have h1 : (y 1).val < 32768 := (y 1).isLt
        have h2 : (z 1).val < 32 := (z 1).isLt
        omega⟩))
    w (constant S12x1024 .f32 0x00000000#32)
    (ix2 (n0 := 12) (n1 := 1024) (y 0) ⟨(y 1).val % 1024, Nat.mod_lt _ (by decide)⟩)

/-- A store of tile `n / 32` writes the part of the row of tiles under it. -/
theorem tile_piece (n m : ℕ) (hn : n = 32 * (n / 32)) (hm : m = 32 * n) {a a' : FVec F S12x1024 .f32} (ha : a = a')
    {w w' : Vec F S32x1024 .f32} (hw : w = w') (h : S12x1024.Slices ![0, n] S12x32)
    (inb : ∀ b, (![0, m] : Fin 2 → Nat) b + S12x1024.size b ≤ S12x32768.size b) (x : S12x1024.Idx) :
    matmul dot_S12x32_S32x1024_S12x1024_1_0_0_1_n_n (some .fp32) (extractStridedSlice S12x32 ![0, n] a h) w
      (constant S12x1024 .f32 0x00000000#32) x
      = tileRow a' w' ((Rect.unit (s := S12x32768) ![0, m] S12x1024.size inb).emb x) := by
  subst ha hw
  have hx : (x 1).val < 1024 := (x 1).isLt
  have e0 : (((Rect.unit (s := S12x32768) ![0, m] S12x1024.size inb).emb x) 0) = x 0 :=
    Fin.ext (by show 0 + 1 * (x 0).val = _; omega)
  have e1 : (((Rect.unit (s := S12x32768) ![0, m] S12x1024.size inb).emb x) 1).val = m + (x 1).val := by
    show m + 1 * (x 1).val = _; omega
  unfold tileRow
  have hj : (ix2 (n0 := 12) (n1 := 1024) (((Rect.unit (s := S12x32768) ![0, m] S12x1024.size inb).emb x) 0)
      ⟨(((Rect.unit (s := S12x32768) ![0, m] S12x1024.size inb).emb x) 1).val % 1024, Nat.mod_lt _ (by decide)⟩) = x := by
    funext b
    match b with
    | ⟨0, _⟩ => exact e0
    | ⟨1, _⟩ => exact Fin.ext (by show _ % 1024 = (x 1).val; rw [e1]; omega)
  rw [hj]
  refine congrArg (fun g => matmul dot_S12x32_S32x1024_S12x1024_1_0_0_1_n_n (some .fp32) g w
    (constant S12x1024 .f32 0x00000000#32) x) (funext fun z => ?_)
  refine extractStridedSlice_apply _ _ _ _ _ (fun b => match b with
      | ⟨0, _⟩ => (Nat.zero_add _).symm
      | ⟨1, _⟩ => ?_)
  show 32 * (_ / 1024) + (z 1).val = n + (z 1).val
  rw [e1]; omega

/-! ## The bands -/

/-- Row `i` of the bands is the distance row shifted right by `i`, from column 895 on. -/
def bands (d : FVec F S12x2048 .f32) : Vec F S12x128x384 .f32 := fun y =>
  d (ix2 (n0 := 12) (n1 := 2048) (y 0) ⟨895 + (y 2).val - (y 1).val, by
    have h : (y 2).val < 384 := (y 2).isLt
    omega⟩)

/-- Eight rows one above the other. -/
theorem stack_rows (v : Fin 8 → FVec F S12x1x128 .f32)
    (h : Shape.Concatenates [S12x1x128, S12x1x128, S12x1x128, S12x1x128, S12x1x128, S12x1x128, S12x1x128, S12x1x128] S12x8x128 1)
    (x : S12x8x128.Idx) :
    concatenate S12x8x128 1 [⟨S12x1x128, v 0⟩, ⟨S12x1x128, v 1⟩, ⟨S12x1x128, v 2⟩, ⟨S12x1x128, v 3⟩, ⟨S12x1x128, v 4⟩,
      ⟨S12x1x128, v 5⟩, ⟨S12x1x128, v 6⟩, ⟨S12x1x128, v 7⟩] h x = v (x 1) (ix3 (n0 := 12) (n1 := 1) (n2 := 128) (x 0) 0 (x 2)) :=
  concatenate_ofFn_unit_apply (t := S12x8x128) (s₁ := S12x1x128) 1 (N := 8) v h rfl rfl x (x 1) rfl _
    (fun b hb => match b with
      | ⟨0, _⟩ => rfl
      | ⟨1, _⟩ => absurd rfl hb
      | ⟨2, _⟩ => rfl)

/-- The vector is the 128 columns of `d` from column `s` on. -/
def RowFrom (d : FVec F S12x2048 .f32) (s : ℕ) (v : FVec F S12x1x128 .f32) : Prop :=
  ∀ (i : Fin 12) (l : Fin 128) (k : Fin 2048), k.val = s + l.val →
    v (ix3 (n0 := 12) (n1 := 1) (n2 := 128) i 0 l) = d (ix2 (n0 := 12) (n1 := 2048) i k)

/-- 128 columns from `p` on, of 256 columns from `q` on. -/
theorem rowFrom_slice {s : ℕ} (d : FVec F S12x2048 .f32) (p q : ℕ) (hs : s = q + p) (hq : S12x2048.Slices ![0, q] S12x256)
    (hp : S12x256.Slices ![0, p] S12x128) :
    RowFrom d s (shapeCast S12x1x128 (extractStridedSlice S12x128 ![0, p] (extractStridedSlice S12x256 ![0, q] d hq) hp)
      shapeCasts_S12x128_S12x1x128) := by
  intro i l k hk
  refine (shapeCast_apply _ _ _ (ix2 (n0 := 12) (n1 := 128) i l) ?_).trans ?_
  · rw [Shape.rowMajor_val_two, Shape.rowMajor_val_three]
    show i.val * 128 + l.val = (i.val * 1 + 0) * 128 + l.val
    omega
  have hpl : p + l.val < 256 := by
    have h1 : p + 128 ≤ 256 := hp.2 1
    have := l.isLt
    omega
  refine (extractStridedSlice_apply _ _ _ _ (ix2 (n0 := 12) (n1 := 256) i ⟨p + l.val, hpl⟩) (fun b => match b with
      | ⟨0, _⟩ => (Nat.zero_add _).symm
      | ⟨1, _⟩ => rfl)).trans ?_
  exact extractStridedSlice_apply _ _ _ _ _ (fun b => match b with
      | ⟨0, _⟩ => (Nat.zero_add _).symm
      | ⟨1, _⟩ => by show k.val = q + (p + l.val); omega)

/-- A store of eight rows, each starting one column before the one above it, writes the part of the bands under it. -/
theorem band_piece (a0 c0 : ℕ) (hs : a0 ≤ 888 + c0) {d d' : FVec F S12x2048 .f32} (hd : d = d')
    {v0 v1 v2 v3 v4 v5 v6 v7 : FVec F S12x1x128 .f32}
    (h0 : RowFrom d (888 + c0 - a0 + 7) v0) (h1 : RowFrom d (888 + c0 - a0 + 6) v1) (h2 : RowFrom d (888 + c0 - a0 + 5) v2) (h3 : RowFrom d (888 + c0 - a0 + 4) v3)
    (h4 : RowFrom d (888 + c0 - a0 + 3) v4) (h5 : RowFrom d (888 + c0 - a0 + 2) v5) (h6 : RowFrom d (888 + c0 - a0 + 1) v6) (h7 : RowFrom d (888 + c0 - a0) v7)
    (h : Shape.Concatenates [S12x1x128, S12x1x128, S12x1x128, S12x1x128, S12x1x128, S12x1x128, S12x1x128, S12x1x128] S12x8x128 1)
    (inb : ∀ b, (![0, a0, c0] : Fin 3 → Nat) b + S12x8x128.size b ≤ S12x128x384.size b) (x : S12x8x128.Idx) :
    concatenate S12x8x128 1 [⟨S12x1x128, v0⟩, ⟨S12x1x128, v1⟩, ⟨S12x1x128, v2⟩, ⟨S12x1x128, v3⟩, ⟨S12x1x128, v4⟩,
      ⟨S12x1x128, v5⟩, ⟨S12x1x128, v6⟩, ⟨S12x1x128, v7⟩] h x
      = bands d' ((Rect.unit (s := S12x128x384) ![0, a0, c0] S12x8x128.size inb).emb x) := by
  subst hd
  refine (stack_rows ![v0, v1, v2, v3, v4, v5, v6, v7] h x).trans ?_
  have hv : ∀ r : Fin 8, RowFrom d (888 + c0 - a0 + (7 - r.val)) (![v0, v1, v2, v3, v4, v5, v6, v7] r) := fun r =>
    match r with
    | ⟨0, _⟩ => h0 | ⟨1, _⟩ => h1 | ⟨2, _⟩ => h2 | ⟨3, _⟩ => h3
    | ⟨4, _⟩ => h4 | ⟨5, _⟩ => h5 | ⟨6, _⟩ => h6 | ⟨7, _⟩ => h7
  have l0 : (x 0).val < 12 := (x 0).isLt
  have l1 : (x 1).val < 8 := (x 1).isLt
  have l2 : (x 2).val < 128 := (x 2).isLt
  unfold bands
  refine (hv (x 1) (x 0) (x 2) ⟨888 + c0 - a0 + (7 - (x 1).val) + (x 2).val, ?_⟩ rfl).trans (congrArg d (funext fun b => ?_))
  · have := inb 2
    have : c0 + 128 ≤ 384 := this
    omega
  · match b with
    | ⟨0, _⟩ => exact Fin.ext (by show (x 0).val = 0 + 1 * (x 0).val; omega)
    | ⟨1, _⟩ => exact Fin.ext (by
        show 888 + c0 - a0 + (7 - (x 1).val) + (x 2).val = 895 + (c0 + 1 * (x 2).val) - (a0 + 1 * (x 1).val); omega)

end Cert.Proof.Build

end
-- ==== Proof.BuildBody.lean ====
/- The body of the first kernel, run once on whole staging buffers: from any contents of the outputs it ends with the four
   functions of `BuildValues` in them and the inputs as they were. -/
module

public import proofs.«01_k».proof.Proof.BuildValues
public import proofs.«01_k».proof.Proof.Gen.KernelIdeal.Launch
public import proofs.«01_k».proof.Proof.Gen.KernelIdeal.Points
public import Idealize.ShloMosaic.Lib.Pipeline.ReadBack
public import Idealize.ShloMosaic.Lib.Tactic

@[expose] public section

set_option maxRecDepth 16384

noncomputable section

namespace Cert.Proof.Build

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer whose stores tile it and all write pieces of one function holds that function. -/
theorem holds_of_pieces {sp : Space} {S : Shape} {e : EltTy} (v : View sig .tc sp S e) (f : v.ty.Contents (Elt F))
    (L : List (View.Piece (Elt F) S e)) (G : Vec F S e) (hc : ∀ y : S.Idx, ∃ p ∈ L, y ∈ p.1.set)
    (hL : ∀ p ∈ L, ∀ x : p.1.shape.Idx, p.2 x = G (p.1.emb x)) : v.read (Elt F) (v.writes (Elt F) f L) = G :=
  (View.read_writes_eq_canon v f L hc).trans (funext fun y => View.canon_apply_of_pieces G L hL y (hc y))

/-- The whole of a two-axis buffer, loaded. -/
theorem load_whole {n0 n1 : ℕ} {e : EltTy} (X : Vec F ⟨2, ![n0, n1]⟩ e)
    (inb : ∀ a, (![0, 0] : Fin 2 → ℕ) a + (⟨2, ![n0, n1]⟩ : Shape).size a ≤ (⟨2, ![n0, n1]⟩ : Shape).size a) :
    View.ld X (Rect.unit (s := ⟨2, ![n0, n1]⟩) ![0, 0] (⟨2, ![n0, n1]⟩ : Shape).size inb) = X :=
  View.ld_unit_zero (funext fun a => match a with | ⟨0, _⟩ => rfl | ⟨1, _⟩ => rfl) inb X

/-- The distance row of loaded blocks is that of the blocks. -/
theorem distRow_loaded (x0 x1 x2 : Vec F S12x32 .f32) (x3 : Vec F S32x2048 .f32) :
    k0_pay3 (View.ld x0 (Rect.unit (s := S12x32) ![0, 0] S12x32.size inb_S12x32_S12x32_0_0))
      (View.ld x3 (Rect.unit (s := S32x2048) ![0, 0] S32x2048.size inb_S32x2048_S32x2048_0_0)) (col x1 0) (col x2 0)
      = distRow x0 x1 x2 x3 :=
  congrArg₂ (fun a b => k0_pay3 a b (col x1 0) (col x2 0)) (load_whole x0 _) (load_whole x3 _)

set_option maxHeartbeats 4000000 in
/-- The body's run. -/
theorem body_run (c : Dev nD) (E : Set ℕ)
    (arg0 : Memref sig .tc .vmem S12x32 .f32) (harg0 : arg0.IsWhole) (arg1 : Memref sig .tc .vmem S12x32 .f32) (harg1 : arg1.IsWhole)
    (arg2 : Memref sig .tc .vmem S12x32 .f32) (harg2 : arg2.IsWhole) (arg3 : Memref sig .tc .vmem S32x2048 .f32) (harg3 : arg3.IsWhole)
    (arg4 : Memref sig .tc .vmem S1x1024 .i32) (harg4 : arg4.IsWhole) (arg5 : Memref sig .tc .vmem S32x1024 .f32) (harg5 : arg5.IsWhole)
    (arg6 : Memref sig .tc .vmem S32x1024 .f32) (harg6 : arg6.IsWhole) (arg7 : Memref sig .tc .vmem S12x2048 .f32) (harg7 : arg7.IsWhole)
    (arg8 : Memref sig .tc .vmem S12x32768 .f32) (harg8 : arg8.IsWhole) (arg9 : Memref sig .tc .vmem S12x32768 .f32) (harg9 : arg9.IsWhole)
    (arg10 : Memref sig .tc .vmem S12x128x384 .f32) (harg10 : arg10.IsWhole)
    (x0 x1 x2 : Vec F S12x32 .f32) (x3 : Vec F S32x2048 .f32) (x4 : Vec F S1x1024 .i32) (x5 x6 : Vec F S32x1024 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare (distRow x0 x1 x2 x3)
            ∗ owns (c : Thread nD τ) arg8 fullShare (tileRow (rowPart x0 x1 x4) x5)
            ∗ owns (c : Thread nD τ) arg9 fullShare (tileRow (colPart x2 x4) x6)
            ∗ owns (c : Thread nD τ) arg10 fullShare (bands (distRow x0 x1 x2 x3))) -∗ K ⟨⟩))
      ⊢ wp frame (wpE (defs₀ (F := F)) Variants.none c none) E (cc0__build_kernel arg0 harg0 arg1 harg1 arg2 harg2 arg3 harg3
          arg4 harg4 arg5 harg5 arg6 harg6 arg7 harg7 arg8 harg8 arg9 harg9 arg10 harg10) K := by
  simp only [cc0__build_kernel_eq_skeleton]; unfold cc0__build_kernel_skel
  simp only [k0_part36_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton,
    k0_part35_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (View.cover_of_tiled _ S12x2048.size (by rfl))).trans ?_
    refine (View.canon_unit_zero (funext fun a => match a with | ⟨0, _⟩ => rfl | ⟨1, _⟩ => rfl) _ _).trans ?_
    exact distRow_loaded _ _ _ _
  isplitl [H8]
  · iexists _; isplitr
    swap; · iexact H8
    ipureintro
    refine holds_of_pieces _ _ _ _ (View.cover_of_tiled _ S12x1024.size (by rfl)) ?_
    have ha := (rowPart_chain (arg0.view.read (Elt F) f0) (arg1.view.read (Elt F) f1)
      (View.ld (arg4.view.read (Elt F) f4) (Rect.unit (s := S1x1024) ![0, 0] S1x1024.size inb_S1x1024_S1x1024_0_0))).trans
      (congrArg _ (load_whole (arg4.view.read (Elt F) f4) _))
    iterate 32 refine List.forall_mem_cons.2 ⟨fun x => tile_piece _ _ (by decide) (by decide) ha (load_whole _ _) (by decide) (by decide) x, ?_⟩
    exact fun p hp => absurd hp List.not_mem_nil
  isplitl [H9]
  · iexists _; isplitr
    swap; · iexact H9
    ipureintro
    refine holds_of_pieces _ _ _ _ (View.cover_of_tiled _ S12x1024.size (by rfl)) ?_
    have ha := (colPart_chain (arg2.view.read (Elt F) f2)
      (View.ld (arg4.view.read (Elt F) f4) (Rect.unit (s := S1x1024) ![0, 0] S1x1024.size inb_S1x1024_S1x1024_0_0))).trans
      (congrArg _ (load_whole (arg4.view.read (Elt F) f4) _))
    iterate 32 refine List.forall_mem_cons.2 ⟨fun x => tile_piece _ _ (by decide) (by decide) ha (load_whole _ _) (by decide) (by decide) x, ?_⟩
    exact fun p hp => absurd hp List.not_mem_nil
  iexists _; isplitr
  swap; · iexact H10
  ipureintro
  refine holds_of_pieces _ _ _ _ (View.cover_of_tiled _ S12x8x128.size (by rfl)) ?_
  have hd := distRow_loaded (arg0.view.read (Elt F) f0) (arg1.view.read (Elt F) f1) (arg2.view.read (Elt F) f2)
    (arg3.view.read (Elt F) f3)
  iterate 48
    refine List.forall_mem_cons.2 ⟨fun x => band_piece _ _ (by decide) hd
      (rowFrom_slice _ _ _ (by decide) (by decide) (by decide)) (rowFrom_slice _ _ _ (by decide) (by decide) (by decide))
      (rowFrom_slice _ _ _ (by decide) (by decide) (by decide)) (rowFrom_slice _ _ _ (by decide) (by decide) (by decide))
      (rowFrom_slice _ _ _ (by decide) (by decide) (by decide)) (rowFrom_slice _ _ _ (by decide) (by decide) (by decide))
      (rowFrom_slice _ _ _ (by decide) (by decide) (by decide)) (rowFrom_slice _ _ _ (by decide) (by decide) (by decide))
      (by decide) (by decide) x, ?_⟩
  exact fun p hp => absurd hp List.not_mem_nil

end Cert.Proof.Build

end
-- ==== Proof.FillValues.lean ====
/- The second kernel's blocks as functions of what it reads, and the stores of its body as pieces of them. -/
module

public import proofs.«01_k».proof.Proof.Gen.KernelIdeal.Skeleton
public import Idealize.ShloMosaic.Lib.Pipeline.FrameBody
public import Idealize.ShloMosaic.Lib.Pipeline.Value
public import Idealize.ShloMosaic.Lib.Pipeline.ReadBack
public import Idealize.ShloMosaic.Lib.Pointwise.Index

@[expose] public section

noncomputable section

namespace Cert.Proof.Fill

open Idealize.ShloMosaic Idealize.SL.Sem Cert.KernelIdeal Cert.KernelIdeal.Gen

variable {F : FTy → Type} [FloatOps F]

/-! ## The blocks -/

/-- Row block `n` of the text rows: the far right is the unclipped saturated entry; on the left the three column blocks next to
    the diagonal come from the stored bands, and everything else is one of the two saturated entries. -/
def textRows (n : ℕ) (d : Vec F S12x2048 .f32) (g : Vec F S12x128x384 .f32) : Vec F S1x12x128x2048 .f32 := fun y =>
  if 1024 ≤ (y 3).val then d (ix2 (n0 := 12) (n1 := 2048) (y 1) ⟨1023, by decide⟩)
  else if h : 128 * n ≤ (y 3).val + 128 ∧ (y 3).val < 128 * n + 256 then
    g (ix3 (n0 := 12) (n1 := 128) (n2 := 384) (y 1) (y 2) ⟨(y 3).val + 128 - 128 * n, by omega⟩)
  else if (y 3).val < 128 * n then d (ix2 (n0 := 12) (n1 := 2048) (y 1) ⟨0, by decide⟩)
  else d (ix2 (n0 := 12) (n1 := 2048) (y 1) ⟨2046, by decide⟩)

/-- A row block of the image rows: the row part plus the column part, and the saturated entry over the text columns. -/
def imageRows (d : Vec F S12x2048 .f32) (a : Vec F S12x32x1024 .f32) (b : Vec F S12x1x4x1024 .f32) :
    Vec F S1x12x128x2048 .f32 := fun y =>
  if 1024 ≤ (y 3).val then
    FloatOps.addf
      (a (ix3 (n0 := 12) (n1 := 32) (n2 := 1024) (y 1) ⟨(y 2).val % 32, Nat.mod_lt _ (by decide)⟩
        ⟨(y 3).val % 1024, Nat.mod_lt _ (by decide)⟩))
      (b (ix4 (n0 := 12) (n1 := 1) (n2 := 4) (n3 := 1024) (y 1) 0 ⟨(y 2).val / 32 % 4, Nat.mod_lt _ (by decide)⟩
        ⟨(y 3).val % 1024, Nat.mod_lt _ (by decide)⟩))
  else d (ix2 (n0 := 12) (n1 := 2048) (y 1) ⟨1023, by decide⟩)

/-- What a point of the second kernel leaves in its block. -/
def filled (n : ℕ) (d : Vec F S12x2048 .f32) (a : Vec F S12x32x1024 .f32) (b : Vec F S12x1x4x1024 .f32)
    (g : Vec F S12x128x384 .f32) : Vec F S1x12x128x2048 .f32 :=
  if n < 8 then textRows n d g else imageRows d a b

/-! ## Reading the payloads -/

/-- A load of a rectangle, at an index. -/
theorem ld_at {S : Shape} {e : EltTy} (X : Vec F S e) (off size : Fin S.rank → ℕ) (inb : ∀ a, off a + size a ≤ S.size a)
    (x : (Rect.unit (s := S) off size inb).shape.Idx) (k : S.Idx) (hk : ∀ a, (k a).val = off a + (x a).val) :
    View.ld X (Rect.unit (s := S) off size inb) x = X k :=
  (congrFun (View.ld_unit _ _ _ inb) _).trans (extractStridedSlice_apply _ _ _ _ k hk)

/-- A leading axis of extent one, put in front of three. -/
theorem lead_axis {n0 n1 n2 : ℕ} {e : EltTy} (v : Vec F ⟨3, ![n0, n1, n2]⟩ e)
    (h : Shape.ShapeCasts (⟨3, ![n0, n1, n2]⟩ : Shape) ⟨4, ![1, n0, n1, n2]⟩) (x : (⟨4, ![1, n0, n1, n2]⟩ : Shape).Idx) :
    shapeCast ⟨4, ![1, n0, n1, n2]⟩ v h x = v (ix3 (n0 := n0) (n1 := n1) (n2 := n2) (x 1) (x 2) (x 3)) := by
  refine shapeCast_apply _ _ _ _ ?_
  have h0 : (x 0).val = 0 := by have := (x 0).isLt; change (x 0).val < 1 at this; omega
  rw [Shape.rowMajor_val_three, Shape.rowMajor_val_four]
  show ((x 1).val * n1 + (x 2).val) * n2 + (x 3).val = (((x 0).val * n0 + (x 1).val) * n1 + (x 2).val) * n2 + (x 3).val
  rw [h0, Nat.zero_mul, Nat.zero_add]

/-- A column given two trailing axes of extent one. -/
theorem trail_axis (v : Vec F S12x1 .f32) (h : S12x1.ShapeCasts S12x1x1) (h0 : Fin 12) :
    shapeCast S12x1x1 v h (ix3 (n0 := 12) (n1 := 1) (n2 := 1) h0 0 0) = v (ix2 (n0 := 12) (n1 := 1) h0 0) := by
  refine shapeCast_apply _ _ _ _ ?_
  rw [Shape.rowMajor_val_two, Shape.rowMajor_val_three]
  show h0.val * 1 + 0 = (h0.val * 1 + 0) * 1 + 0
  omega

/-- The saturated entry spread over a block. -/
theorem spread_at (d : Vec F S12x2048 .f32) (y : S12x128x1024.Idx) :
    k1_pay1 (View.ld d (Rect.unit (s := S12x2048) ![0, 1023] S12x1.size inb_S12x2048_S12x1_0_1023)) y
      = d (ix2 (n0 := 12) (n1 := 2048) (y 0) ⟨1023, by decide⟩) := by
  unfold k1_pay1
  refine (broadcastTo_apply _ _ y (ix3 (n0 := 12) (n1 := 1) (n2 := 1) (y 0) 0 0)
    (fun a => match a with | ⟨0, _⟩ => rfl | ⟨1, _⟩ => rfl | ⟨2, _⟩ => rfl)).trans ?_
  refine (congrFun (shapeCast_self _ _) _).trans ?_
  refine (trail_axis _ _ _).trans ?_
  refine (congrFun (shapeCast_self _ _) _).trans ?_
  exact ld_at _ _ _ _ _ _ (fun a => match a with | ⟨0, _⟩ => (Nat.zero_add _).symm | ⟨1, _⟩ => rfl)

/-- The left half before the bands: one saturated entry left of column `128 n`, the other from there on. -/
theorem sides_at (n : ℕ) (hn : n < 8) (d : Vec F S12x2048 .f32) (x : S1x12x128x1024.Idx) :
    k1_pay6 (BitVec.ofNat 32 n) (View.ld d (Rect.unit (s := S12x2048) ![0, 0] S12x1.size inb_S12x2048_S12x1_0_0))
      (View.ld d (Rect.unit (s := S12x2048) ![0, 2046] S12x1.size inb_S12x2048_S12x1_0_2046)) x
      = if (x 3).val < 128 * n then d (ix2 (n0 := 12) (n1 := 2048) (x 1) ⟨0, by decide⟩)
        else d (ix2 (n0 := 12) (n1 := 2048) (x 1) ⟨2046, by decide⟩) := by
  unfold k1_pay6
  refine (lead_axis (F := F) (e := .f32) (n0 := 12) (n1 := 128) (n2 := 1024) _ _ x).trans ?_
  refine (broadcastTo_apply _ _ _ (ix3 (n0 := 12) (n1 := 1) (n2 := 1024) (x 1) 0 (x 3))
    (fun a => match a with | ⟨0, _⟩ => rfl | ⟨1, _⟩ => rfl | ⟨2, _⟩ => rfl)).trans ?_
  refine (congrFun (shapeCast_self _ _) _).trans ?_
  have side (m : ℕ) (hm : m < 2048) (inb : ∀ a, (![0, m] : Fin 2 → ℕ) a + S12x1.size a ≤ S12x2048.size a) :
      broadcastTo S12x1x1024 (shapeCast S12x1x1 (shapeCast S12x1x1 (shapeCast S12x1
        (View.ld d (Rect.unit (s := S12x2048) ![0, m] S12x1.size inb)) shapeCasts_S12x1_S12x1) shapeCasts_S12x1_S12x1x1)
        shapeCasts_S12x1x1_S12x1x1) broadcasts_S12x1x1_S12x1x1024 (ix3 (n0 := 12) (n1 := 1) (n2 := 1024) (x 1) 0 (x 3))
        = d (ix2 (n0 := 12) (n1 := 2048) (x 1) ⟨m, hm⟩) := by
    refine (broadcastTo_apply _ _ _ (ix3 (n0 := 12) (n1 := 1) (n2 := 1) (x 1) 0 0)
      (fun a => match a with | ⟨0, _⟩ => rfl | ⟨1, _⟩ => rfl | ⟨2, _⟩ => rfl)).trans ?_
    refine (congrFun (shapeCast_self _ _) _).trans ?_
    refine (trail_axis _ _ _).trans ?_
    refine (congrFun (shapeCast_self _ _) _).trans ?_
    exact ld_at _ _ _ _ _ _ (fun a => match a with | ⟨0, _⟩ => (Nat.zero_add _).symm | ⟨1, _⟩ => rfl)
  have cond : broadcastTo S12x1x1024 (shapeCast S1x1x1024 (cmpi .slt (iota .tc S1x1x1024 32 [2] iota_S1x1x1024_d2_w32)
      (broadcast S1x1x1024 (Scalar.muli 128#32 (BitVec.ofNat 32 n)))) shapeCasts_S1x1x1024_S1x1x1024)
      broadcasts_S1x1x1024_S12x1x1024 (ix3 (n0 := 12) (n1 := 1) (n2 := 1024) (x 1) 0 (x 3))
      = IntOp.cmpi .slt (BitVec.ofNat 32 (x 3).val) (Scalar.muli 128#32 (BitVec.ofNat 32 n)) := by
    refine (broadcastTo_apply _ _ _ (ix3 (n0 := 1) (n1 := 1) (n2 := 1024) 0 0 (x 3))
      (fun a => match a with | ⟨0, _⟩ => rfl | ⟨1, _⟩ => rfl | ⟨2, _⟩ => rfl)).trans ?_
    refine (congrFun (shapeCast_self _ _) _).trans ?_
    exact congrArg (fun z => IntOp.cmpi .slt z _) (iota_single_apply _ _ _ _ _ _)
  have lt : (IntOp.cmpi .slt (BitVec.ofNat 32 (x 3).val) (Scalar.muli 128#32 (BitVec.ofNat 32 n)) = 1#1)
      ↔ (x 3).val < 128 * n := by
    have hx : (x 3).val < 1024 := (x 3).isLt
    generalize (x 3).val = k at hx ⊢
    have e : Scalar.muli 128#32 (BitVec.ofNat 32 n) = BitVec.ofNat 32 (128 * n) :=
      (by decide : ∀ n < 8, Scalar.muli 128#32 (BitVec.ofNat 32 n) = BitVec.ofNat 32 (128 * n)) n hn
    rw [e]
    show BitVec.ofBool (BitVec.slt _ _) = 1#1 ↔ _
    have ti (q : ℕ) (hq : q < 1024) : (BitVec.ofNat 32 q).toInt = q := by
      have hb : (BitVec.ofNat 32 q).toNat = q := by rw [BitVec.toNat_ofNat]; omega
      rw [BitVec.toInt_eq_toNat_of_lt (by rw [hb]; omega), hb]
    rw [BitVec.slt_eq_decide, ti k hx, ti (128 * n) (by omega)]
    by_cases h : k < 128 * n
    · have : ((k : ℤ) < (128 * n : ℕ)) := by exact_mod_cast h
      simp only [h, iff_true]; rw [decide_eq_true this]; decide
    · have : ¬ ((k : ℤ) < (128 * n : ℕ)) := by exact_mod_cast h
      simp only [h, iff_false]; rw [decide_eq_false this]; decide
  show (if _ = 1#1 then _ else _) = _
  rw [cond, side 0 (by decide), side 2046 (by decide)]
  by_cases h : (x 3).val < 128 * n
  · rw [if_pos h, if_pos (lt.2 h)]
  · rw [if_neg h, if_neg (fun h' => h (lt.1 h'))]

/-- A band's column block, loaded and stored with a leading axis. -/
theorem band_at (m : ℕ) (hm : m + 128 ≤ 384) (g : Vec F S12x128x384 .f32)
    (inb : ∀ a, (![0, 0, m] : Fin 3 → ℕ) a + S12x128x128.size a ≤ S12x128x384.size a) (x : S1x12x128x128.Idx) :
    shapeCast S1x12x128x128 (shapeCast S12x128x128 (View.ld g (Rect.unit (s := S12x128x384) ![0, 0, m] S12x128x128.size inb))
      shapeCasts_S12x128x128_S12x128x128) shapeCasts_S12x128x128_S1x12x128x128 x
      = g (ix3 (n0 := 12) (n1 := 128) (n2 := 384) (x 1) (x 2)
          ⟨m + (x 3).val, by have : (x 3).val < 128 := (x 3).isLt; omega⟩) := by
  refine (lead_axis (F := F) (e := .f32) (n0 := 12) (n1 := 128) (n2 := 128) _ _ x).trans ?_
  refine (congrFun (shapeCast_self _ _) _).trans ?_
  exact ld_at _ _ _ _ _ _ (fun a => match a with
    | ⟨0, _⟩ => (Nat.zero_add _).symm | ⟨1, _⟩ => (Nat.zero_add _).symm | ⟨2, _⟩ => rfl)

/-- One row of 32 of the image block. -/
theorem sum_at (m : ℕ) (hm : m < 4) (a : Vec F S12x32x1024 .f32) (b : Vec F S12x1x4x1024 .f32)
    (inb : ∀ a, (![0, 0, m, 0] : Fin 4 → ℕ) a + S12x1x1x1024.size a ≤ S12x1x4x1024.size a) (x : S1x12x32x1024.Idx) :
    k1_pay4 (k1_pay9 (View.ld a (Rect.unit (s := S12x32x1024) ![0, 0, 0] S12x32x1024.size inb_S12x32x1024_S12x32x1024_0_0_0)))
      (View.ld b (Rect.unit (s := S12x1x4x1024) ![0, 0, m, 0] S12x1x1x1024.size inb)) x
      = FloatOps.addf (a (ix3 (n0 := 12) (n1 := 32) (n2 := 1024) (x 1) (x 2) (x 3)))
          (b (ix4 (n0 := 12) (n1 := 1) (n2 := 4) (n3 := 1024) (x 1) 0 ⟨m, hm⟩ (x 3))) := by
  unfold k1_pay4
  refine (lead_axis (F := F) (e := .f32) (n0 := 12) (n1 := 32) (n2 := 1024) _ _ x).trans ?_
  refine congrArg₂ (FloatOps.addf (F := F) (φ := .f32)) ?_ ?_
  · unfold k1_pay9
    refine (congrFun (shapeCast_self _ _) _).trans ?_
    exact ld_at _ _ _ _ _ _ (fun a => match a with
      | ⟨0, _⟩ => (Nat.zero_add _).symm | ⟨1, _⟩ => (Nat.zero_add _).symm | ⟨2, _⟩ => (Nat.zero_add _).symm)
  · refine (broadcastTo_apply _ _ _ (ix3 (n0 := 12) (n1 := 1) (n2 := 1024) (x 1) 0 (x 3))
      (fun a => match a with | ⟨0, _⟩ => rfl | ⟨1, _⟩ => rfl | ⟨2, _⟩ => rfl)).trans ?_
    refine (shapeCast_apply _ _ _ (ix4 (n0 := 12) (n1 := 1) (n2 := 1) (n3 := 1024) (x 1) 0 0 (x 3)) ?_).trans ?_
    · rw [Shape.rowMajor_val_three, Shape.rowMajor_val_four]
      show (((x 1).val * 1 + 0) * 1 + 0) * 1024 + (x 3).val = ((x 1).val * 1 + 0) * 1024 + (x 3).val
      omega
    · exact ld_at _ _ _ _ _ _ (fun a => match a with
        | ⟨0, _⟩ => (Nat.zero_add _).symm | ⟨1, _⟩ => rfl | ⟨2, _⟩ => rfl | ⟨3, _⟩ => (Nat.zero_add _).symm)

/-! ## The stores, latest first -/

/-- At index `y` a list of stores (latest first) covers the index and leaves the value `v` there. -/
def Leaves {S : Shape} {e : EltTy} (L : List (View.Piece (Elt F) S e)) (y : S.Idx) (v : Elt F e) : Prop :=
  (∃ p ∈ L, y ∈ p.1.set) ∧ View.canon L y = v

/-- What a list of stores leaves at an index: if the last one covers it, that store's value there; otherwise what the
    earlier ones leave. -/
theorem canon_step {S : Shape} {e : EltTy} (off size : Fin S.rank → ℕ) (inb : ∀ a, off a + size a ≤ S.size a)
    (w : (Rect.unit (s := S) off size inb).shape.Idx → Elt F e) (L : List (View.Piece (Elt F) S e)) (y : S.Idx) (v : Elt F e)
    (hp : ∀ x : (Rect.unit (s := S) off size inb).shape.Idx, (∀ a, (y a).val = off a + (x a).val) → w x = v)
    (hL : ¬ (∀ a, off a ≤ (y a).val ∧ (y a).val < off a + size a) → Leaves L y v) :
    Leaves ((⟨Rect.unit (s := S) off size inb, w⟩ : View.Piece (Elt F) S e) :: L) y v := by
  by_cases hm : y ∈ (Rect.unit (s := S) off size inb).set
  · obtain ⟨x, hx⟩ := (Rect.unit (s := S) off size inb).exists_idx_of_mem hm
    subst hx
    refine ⟨⟨_, List.mem_cons_self, hm⟩, ?_⟩
    refine (View.canon_cons_emb _ w L x).trans (hp x fun a => by
      show off a + 1 * (x a).val = _
      rw [Nat.one_mul])
  · obtain ⟨⟨p, hp, hy⟩, hv⟩ := hL fun h => hm (Rect.mem_set_unit.2 h)
    exact ⟨⟨p, List.mem_cons_of_mem _ hp, hy⟩, (View.canon_cons_of_not_mem _ _ hm).trans hv⟩

/-- The store of one band over earlier stores. -/
theorem band_step (n o c m : ℕ) (hm : m = 128 * o) (ho : o < 3) (hc : c + 128 = 128 * (n + o)) (hc' : c + 128 ≤ 1024)
    (d : Vec F S12x2048 .f32) (g : Vec F S12x128x384 .f32) (off : Fin 4 → ℕ) (hoff : off = ![0, 0, 0, c])
    (inb : ∀ a, off a + S1x12x128x128.size a ≤ S1x12x128x2048.size a)
    (inb' : ∀ a, (![0, 0, m] : Fin 3 → ℕ) a + S12x128x128.size a ≤ S12x128x384.size a)
    (L : List (View.Piece (Elt F) S1x12x128x2048 .f32)) (y : S1x12x128x2048.Idx)
    (hL : ¬ (c ≤ (y 3).val ∧ (y 3).val < c + 128) → Leaves L y (textRows n d g y)) :
    Leaves ((⟨Rect.unit (s := S1x12x128x2048) off S1x12x128x128.size inb,
      shapeCast S1x12x128x128 (shapeCast S12x128x128 (View.ld g (Rect.unit (s := S12x128x384) ![0, 0, m] S12x128x128.size inb'))
        shapeCasts_S12x128x128_S12x128x128) shapeCasts_S12x128x128_S1x12x128x128⟩ : View.Piece (Elt F) S1x12x128x2048 .f32) :: L) y (textRows n d g y) := by
  subst hoff hm
  refine canon_step _ _ _ _ _ _ _ (fun x hx => ?_) (fun hn => hL fun h => hn fun a => ?_)
  · have h1 := hx 1; have h2 := hx 2; have h3 := hx 3
    change (y 1).val = 0 + (x 1).val at h1
    change (y 2).val = 0 + (x 2).val at h2
    change (y 3).val = c + (x 3).val at h3
    have hx3 : (x 3).val < 128 := (x 3).isLt
    refine (band_at _ (by omega) g inb' x).trans ?_
    unfold textRows
    rw [if_neg (by omega), dif_pos (by omega)]
    exact congrArg g (funext fun a => match a with
      | ⟨0, _⟩ => Fin.ext (by show (x 1).val = (y 1).val; omega)
      | ⟨1, _⟩ => Fin.ext (by show (x 2).val = (y 2).val; omega)
      | ⟨2, _⟩ => Fin.ext (by show 128 * o + (x 3).val = (y 3).val + 128 - 128 * n; omega))
  · have y0 : (y 0).val < 1 := (y 0).isLt
    have y1 : (y 1).val < 12 := (y 1).isLt
    have y2 : (y 2).val < 128 := (y 2).isLt
    match a with
    | ⟨0, _⟩ => exact ⟨Nat.zero_le _, by show (y 0).val < 0 + 1; omega⟩
    | ⟨1, _⟩ => exact ⟨Nat.zero_le _, by show (y 1).val < 0 + 12; omega⟩
    | ⟨2, _⟩ => exact ⟨Nat.zero_le _, by show (y 2).val < 0 + 128; omega⟩
    | ⟨3, _⟩ => exact h

/-- The two stores before the bands. -/
theorem text_base (n : ℕ) (hn : n < 8) (d : Vec F S12x2048 .f32) (g : Vec F S12x128x384 .f32) (y : S1x12x128x2048.Idx)
    (h : 128 * n ≤ (y 3).val + 128 ∧ (y 3).val < 128 * n + 256 → 1024 ≤ (y 3).val) :
    Leaves [(⟨Rect.unit (s := S1x12x128x2048) ![0, 0, 0, 0] S1x12x128x1024.size inb_S1x12x128x2048_S1x12x128x1024_0_0_0_0,
        k1_pay6 (BitVec.ofNat 32 n) (View.ld d (Rect.unit (s := S12x2048) ![0, 0] S12x1.size inb_S12x2048_S12x1_0_0))
          (View.ld d (Rect.unit (s := S12x2048) ![0, 2046] S12x1.size inb_S12x2048_S12x1_0_2046))⟩
          : View.Piece (Elt F) S1x12x128x2048 .f32),
      (⟨Rect.unit (s := S1x12x128x2048) ![0, 0, 0, 1024] S1x12x128x1024.size inb_S1x12x128x2048_S1x12x128x1024_0_0_0_1024,
        k1_pay5 (k1_pay1 (View.ld d (Rect.unit (s := S12x2048) ![0, 1023] S12x1.size inb_S12x2048_S12x1_0_1023)))⟩
          : View.Piece (Elt F) S1x12x128x2048 .f32)] y (textRows n d g y) := by
  have y0 : (y 0).val < 1 := (y 0).isLt
  have y1 : (y 1).val < 12 := (y 1).isLt
  have y2 : (y 2).val < 128 := (y 2).isLt
  have y3 : (y 3).val < 2048 := (y 3).isLt
  refine canon_step _ _ _ _ _ _ _ (fun x hx => ?_) (fun hlo => canon_step _ _ _ _ _ _ _ (fun x hx => ?_) (fun hhi => ?_))
  · have h1 := hx 1; have h3 := hx 3
    change (y 1).val = 0 + (x 1).val at h1
    change (y 3).val = 0 + (x 3).val at h3
    have hx3 : (x 3).val < 1024 := (x 3).isLt
    have e1 : x 1 = y 1 := Fin.ext (by show (x 1).val = (y 1).val; omega)
    refine (sides_at n hn d x).trans ?_
    unfold textRows
    rw [if_neg (show ¬ 1024 ≤ (y 3).val by omega),
      dif_neg (show ¬ (128 * n ≤ (y 3).val + 128 ∧ (y 3).val < 128 * n + 256) by omega), show (x 3).val = (y 3).val by omega]
    exact congrArg (fun z : Fin 12 => if (y 3).val < 128 * n then d (ix2 (n0 := 12) (n1 := 2048) z ⟨0, by decide⟩)
      else d (ix2 (n0 := 12) (n1 := 2048) z ⟨2046, by decide⟩)) e1
  · have h1 := hx 1; have h3 := hx 3
    change (y 1).val = 0 + (x 1).val at h1
    change (y 3).val = 1024 + (x 3).val at h3
    have e1 : x 1 = y 1 := Fin.ext (by show (x 1).val = (y 1).val; omega)
    unfold k1_pay5
    refine (lead_axis (F := F) (e := .f32) (n0 := 12) (n1 := 128) (n2 := 1024) _ _ x).trans ?_
    refine (spread_at d _).trans ?_
    unfold textRows
    rw [if_pos (by omega)]
    exact congrArg (fun z : Fin 12 => d (ix2 (n0 := 12) (n1 := 2048) z ⟨1023, by decide⟩)) e1
  · exfalso
    by_cases h' : 1024 ≤ (y 3).val
    · exact hhi fun a => match a with
        | ⟨0, _⟩ => ⟨Nat.zero_le _, by show (y 0).val < 0 + 1; omega⟩
        | ⟨1, _⟩ => ⟨Nat.zero_le _, by show (y 1).val < 0 + 12; omega⟩
        | ⟨2, _⟩ => ⟨Nat.zero_le _, by show (y 2).val < 0 + 128; omega⟩
        | ⟨3, _⟩ => ⟨h', by show (y 3).val < 1024 + 1024; omega⟩
    · exact hlo fun a => match a with
        | ⟨0, _⟩ => ⟨Nat.zero_le _, by show (y 0).val < 0 + 1; omega⟩
        | ⟨1, _⟩ => ⟨Nat.zero_le _, by show (y 1).val < 0 + 12; omega⟩
        | ⟨2, _⟩ => ⟨Nat.zero_le _, by show (y 2).val < 0 + 128; omega⟩
        | ⟨3, _⟩ => ⟨Nat.zero_le _, by show (y 3).val < 0 + 1024; omega⟩

/-- The store of a row of 32 of the image block, over earlier stores. -/
theorem image_step (r m : ℕ) (hr : r = 32 * m) (hm : m < 4) (d : Vec F S12x2048 .f32) (a : Vec F S12x32x1024 .f32)
    (b : Vec F S12x1x4x1024 .f32) (inb : ∀ a, (![0, 0, r, 1024] : Fin 4 → ℕ) a + S1x12x32x1024.size a ≤ S1x12x128x2048.size a)
    (inb' : ∀ a, (![0, 0, m, 0] : Fin 4 → ℕ) a + S12x1x1x1024.size a ≤ S12x1x4x1024.size a)
    (w : Vec F S1x12x32x1024 .f32) (hw : w = k1_pay4 (k1_pay9 (View.ld a (Rect.unit (s := S12x32x1024) ![0, 0, 0]
        S12x32x1024.size inb_S12x32x1024_S12x32x1024_0_0_0)))
      (View.ld b (Rect.unit (s := S12x1x4x1024) ![0, 0, m, 0] S12x1x1x1024.size inb')))
    (L : List (View.Piece (Elt F) S1x12x128x2048 .f32)) (y : S1x12x128x2048.Idx)
    (hL : ¬ (r ≤ (y 2).val ∧ (y 2).val < r + 32 ∧ 1024 ≤ (y 3).val) → Leaves L y (imageRows d a b y)) :
    Leaves ((⟨Rect.unit (s := S1x12x128x2048) ![0, 0, r, 1024] S1x12x32x1024.size inb, w⟩
        : View.Piece (Elt F) S1x12x128x2048 .f32) :: L) y (imageRows d a b y) := by
  subst hr hw
  have y0 : (y 0).val < 1 := (y 0).isLt
  have y1 : (y 1).val < 12 := (y 1).isLt
  have y3 : (y 3).val < 2048 := (y 3).isLt
  refine canon_step _ _ _ _ _ _ _ (fun x hx => ?_) (fun hn => hL fun h => hn fun a => ?_)
  · have h1 := hx 1; have h2 := hx 2; have h3 := hx 3
    change (y 1).val = 0 + (x 1).val at h1
    change (y 2).val = 32 * m + (x 2).val at h2
    change (y 3).val = 1024 + (x 3).val at h3
    have hx2 : (x 2).val < 32 := (x 2).isLt
    have hx3 : (x 3).val < 1024 := (x 3).isLt
    refine (sum_at m hm a b inb' x).trans ?_
    unfold imageRows
    rw [if_pos (by omega)]
    refine congrArg₂ (FloatOps.addf (F := F) (φ := .f32)) (congrArg a (funext fun i => match i with
      | ⟨0, _⟩ => Fin.ext (by show (x 1).val = (y 1).val; omega)
      | ⟨1, _⟩ => Fin.ext (by show (x 2).val = (y 2).val % 32; omega)
      | ⟨2, _⟩ => Fin.ext (by show (x 3).val = (y 3).val % 1024; omega)))
      (congrArg b (funext fun i => match i with
      | ⟨0, _⟩ => Fin.ext (by show (x 1).val = (y 1).val; omega)
      | ⟨1, _⟩ => rfl
      | ⟨2, _⟩ => Fin.ext (by show m = (y 2).val / 32 % 4; omega)
      | ⟨3, _⟩ => Fin.ext (by show (x 3).val = (y 3).val % 1024; omega)))
  · match a with
    | ⟨0, _⟩ => exact ⟨Nat.zero_le _, by show (y 0).val < 0 + 1; omega⟩
    | ⟨1, _⟩ => exact ⟨Nat.zero_le _, by show (y 1).val < 0 + 12; omega⟩
    | ⟨2, _⟩ => exact ⟨h.1, h.2.1⟩
    | ⟨3, _⟩ => exact ⟨h.2.2, by show (y 3).val < 1024 + 1024; omega⟩

/-- The store of the saturated entry over the text columns. -/
theorem image_base (d : Vec F S12x2048 .f32) (a : Vec F S12x32x1024 .f32)
    (b : Vec F S12x1x4x1024 .f32) (y : S1x12x128x2048.Idx) (h : (y 3).val < 1024) :
    Leaves [(⟨Rect.unit (s := S1x12x128x2048) ![0, 0, 0, 0] S1x12x128x1024.size inb_S1x12x128x2048_S1x12x128x1024_0_0_0_0,
        k1_pay8 (k1_pay1 (View.ld d (Rect.unit (s := S12x2048) ![0, 1023] S12x1.size inb_S12x2048_S12x1_0_1023)))⟩
          : View.Piece (Elt F) S1x12x128x2048 .f32)] y (imageRows d a b y) := by
  have y0 : (y 0).val < 1 := (y 0).isLt
  have y1 : (y 1).val < 12 := (y 1).isLt
  have y2 : (y 2).val < 128 := (y 2).isLt
  refine canon_step _ _ _ _ _ _ _ (fun x hx => ?_) (fun hn => absurd (fun a => ?_) hn)
  · have h1 := hx 1
    change (y 1).val = 0 + (x 1).val at h1
    have e1 : x 1 = y 1 := Fin.ext (by show (x 1).val = (y 1).val; omega)
    unfold k1_pay8
    refine (lead_axis (F := F) (e := .f32) (n0 := 12) (n1 := 128) (n2 := 1024) _ _ x).trans ?_
    refine (spread_at d _).trans ?_
    unfold imageRows
    rw [if_neg (by omega)]
    exact congrArg (fun z : Fin 12 => d (ix2 (n0 := 12) (n1 := 2048) z ⟨1023, by decide⟩)) e1
  · match a with
    | ⟨0, _⟩ => exact ⟨Nat.zero_le _, by show (y 0).val < 0 + 1; omega⟩
    | ⟨1, _⟩ => exact ⟨Nat.zero_le _, by show (y 1).val < 0 + 12; omega⟩
    | ⟨2, _⟩ => exact ⟨Nat.zero_le _, by show (y 2).val < 0 + 128; omega⟩
    | ⟨3, _⟩ => exact ⟨Nat.zero_le _, by show (y 3).val < 0 + 1024; omega⟩

end Cert.Proof.Fill

end
-- ==== Proof.FillBody.lean ====
/- The body of the second kernel, run at one grid point on whole staging buffers: from any contents of the output it ends with
   the block of `FillValues` in it and the inputs as they were. -/
module

public import proofs.«01_k».proof.Proof.FillValues
public import proofs.«01_k».proof.Proof.Gen.KernelIdeal.Launch
public import proofs.«01_k».proof.Proof.Gen.KernelIdeal.Points
public import Idealize.ShloMosaic.Lib.Tactic

@[expose] public section

set_option maxRecDepth 16384

noncomputable section

namespace Cert.Proof.Fill

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of a run. -/
abbrev Res (F : FTy → Type) [FloatOps F] : Type := MT nD τ sig Unit (Elt F) ℕ (UR sig nD τ) ℕ

/-! ## The branches, by the grid point -/

theorem point_lt (i : grid1.Coords) : (i 0).val < 16 := (i 0).isLt

theorem cond1_iff (i : grid1.Coords) : k1_cond1 i = 1#1 ↔ (i 0).val < 8 := by
  have h := point_lt i
  unfold k1_cond1; revert h; generalize (i 0).val = n; revert n; decide
theorem cond2_iff (i : grid1.Coords) : k1_cond2 i = 1#1 ↔ 1 ≤ (i 0).val ∧ (i 0).val ≤ 8 := by
  have h := point_lt i
  unfold k1_cond2; revert h; generalize (i 0).val = n; revert n; decide
theorem cond3_iff (i : grid1.Coords) : k1_cond3 i = 1#1 ↔ (i 0).val < 8 := by
  have h := point_lt i
  unfold k1_cond3; revert h; generalize (i 0).val = n; revert n; decide
theorem cond4_iff (i : grid1.Coords) : k1_cond4 i = 1#1 ↔ (i 0).val < 7 := by
  have h := point_lt i
  unfold k1_cond4; revert h; generalize (i 0).val = n; revert n; decide
theorem cond5_iff (i : grid1.Coords) : k1_cond5 i = 1#1 ↔ 8 ≤ (i 0).val := by
  have h := point_lt i
  unfold k1_cond5; revert h; generalize (i 0).val = n; revert n; decide

theorem off1_eq (i : grid1.Coords) (h : 1 ≤ (i 0).val) (h' : (i 0).val < 8) : k1_off1 i = ![0, 0, 0, 128 * ((i 0).val - 1)] := by
  have e : ∀ n, 1 ≤ n → n < 8 → (Scalar.indexCast (Scalar.muli 128#32 (Scalar.addi (BitVec.ofNat 32 n) 4294967295#32))).toNat
      = 128 * (n - 1) := by
    intro n h1 h2; revert h1; revert n; decide
  exact congrArg (fun z => (![0, 0, 0, z] : Fin 4 → ℕ)) (e _ h h')
theorem off2_eq (i : grid1.Coords) (h' : (i 0).val < 8) : k1_off2 i = ![0, 0, 0, 128 * (i 0).val] := by
  have e : ∀ n, n < 8 → (Scalar.indexCast (Scalar.muli 128#32 (Scalar.addi (BitVec.ofNat 32 n) 0#32))).toNat = 128 * n := by
    decide
  exact congrArg (fun z => (![0, 0, 0, z] : Fin 4 → ℕ)) (e _ h')
theorem off3_eq (i : grid1.Coords) (h' : (i 0).val < 8) : k1_off3 i = ![0, 0, 0, 128 * ((i 0).val + 1)] := by
  have e : ∀ n, n < 8 → (Scalar.indexCast (Scalar.muli 128#32 (Scalar.addi (BitVec.ofNat 32 n) 1#32))).toNat = 128 * (n + 1) := by
    decide
  exact congrArg (fun z => (![0, 0, 0, z] : Fin 4 → ℕ)) (e _ h')

set_option maxHeartbeats 1000000 in
/-- The body's run. -/
theorem body_run (c : Dev nD) (E : Set ℕ) (i : grid1.Coords)
    (arg1 : Memref sig .tc .vmem S12x2048 .f32) (harg1 : arg1.IsWhole) (arg2 : Memref sig .tc .vmem S12x32x1024 .f32) (harg2 : arg2.IsWhole)
    (arg3 : Memref sig .tc .vmem S12x1x4x1024 .f32) (harg3 : arg3.IsWhole) (arg4 : Memref sig .tc .vmem S12x128x384 .f32) (harg4 : arg4.IsWhole)
    (arg5 : Memref sig .tc .vmem S1x12x128x2048 .f32) (harg5 : arg5.IsWhole)
    (x1 : Vec F S12x2048 .f32) (x2 : Vec F S12x32x1024 .f32) (x3 : Vec F S12x1x4x1024 .f32) (x4 : Vec F S12x128x384 .f32)
    (K : PUnit → sProp (Res F)) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (filled (i 0).val x1 x2 x3 x4)) -∗ K ⟨⟩))
      ⊢ wp frame (wpE (defs₀ (F := F)) Variants.none c none) E
          (cc1__fill_kernel i arg1 harg1 arg2 harg2 arg3 harg3 arg4 harg4 arg5 harg5) K := by
  have hi := point_lt i
  have t3 (y : S1x12x128x2048.Idx) : (y 3).val < 2048 := (y 3).isLt
  have t2 (y : S1x12x128x2048.Idx) : (y 2).val < 128 := (y 2).isLt
  simp only [cc1__fill_kernel_eq_skeleton]; unfold cc1__fill_kernel_skel
  simp only [k1_part1_eq_skeleton, k1_part2_eq_skeleton]
  unfold k1_part1_skel k1_part2_skel owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  have give (L : List (View.Piece (Elt F) S1x12x128x2048 .f32))
      (hG : ∀ y, Leaves L y (filled (i 0).val (arg1.view.read (Elt F) f1) (arg2.view.read (Elt F) f2)
        (arg3.view.read (Elt F) f3) (arg4.view.read (Elt F) f4) y)) :
      arg5.view.read (Elt F) (arg5.view.writes (Elt F) f5 L) = filled (i 0).val (arg1.view.read (Elt F) f1)
        (arg2.view.read (Elt F) f2) (arg3.view.read (Elt F) f3) (arg4.view.read (Elt F) f4) :=
    (View.read_writes_eq_canon _ _ L fun y => (hG y).1).trans (funext fun y => (hG y).2)
  by_cases hn : (i 0).val < 8
  · have c1 := (cond1_iff i).2 hn
    have c3 := (cond3_iff i).2 hn
    have c5 : ¬ k1_cond5 i = 1#1 := fun h => absurd ((cond5_iff i).1 h) (by omega)
    by_cases hz : (i 0).val = 0
    · have c2 : ¬ k1_cond2 i = 1#1 := fun h => absurd ((cond2_iff i).1 h) (by omega)
      have c4 : k1_cond4 i = 1#1 := (cond4_iff i).2 (by omega)
      simp only [dif_pos c1, dif_neg c2, dif_pos c3, dif_pos c4, dif_neg c5]
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      iexists _; isplitr
      swap; · iexact H5
      ipureintro
      refine give _ fun y => ?_
      unfold filled
      rw [if_pos hn]
      refine band_step (i 0).val 2 (128 * ((i 0).val + 1)) 256 rfl (by decide) (by omega) (by omega) _ _ _ (off3_eq i hn) _ _ _ y fun n2 => ?_
      refine band_step (i 0).val 1 (128 * (i 0).val) 128 rfl (by decide) (by omega) (by omega) _ _ _ (off2_eq i hn) _ _ _ y fun n1 => ?_
      exact text_base _ hn _ _ y (by omega)
    by_cases hs : (i 0).val = 7
    · have c2 : k1_cond2 i = 1#1 := (cond2_iff i).2 (by omega)
      have c4 : ¬ k1_cond4 i = 1#1 := fun h => absurd ((cond4_iff i).1 h) (by omega)
      simp only [dif_pos c1, dif_pos c2, dif_pos c3, dif_neg c4, dif_neg c5]
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      iexists _; isplitr
      swap; · iexact H5
      ipureintro
      refine give _ fun y => ?_
      unfold filled
      rw [if_pos hn]
      refine band_step (i 0).val 1 (128 * (i 0).val) 128 rfl (by decide) (by omega) (by omega) _ _ _ (off2_eq i hn) _ _ _ y fun n1 => ?_
      refine band_step (i 0).val 0 (128 * ((i 0).val - 1)) 0 rfl (by decide) (by omega) (by omega) _ _ _ (off1_eq i (by omega) hn) _ _ _ y fun n0 => ?_
      exact text_base _ hn _ _ y (by omega)
    · have c2 : k1_cond2 i = 1#1 := (cond2_iff i).2 (by omega)
      have c4 : k1_cond4 i = 1#1 := (cond4_iff i).2 (by omega)
      simp only [dif_pos c1, dif_pos c2, dif_pos c3, dif_pos c4, dif_neg c5]
      sl_exec
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      iexists _; isplitr
      swap; · iexact H5
      ipureintro
      refine give _ fun y => ?_
      unfold filled
      rw [if_pos hn]
      refine band_step (i 0).val 2 (128 * ((i 0).val + 1)) 256 rfl (by decide) (by omega) (by omega) _ _ _ (off3_eq i hn) _ _ _ y fun n2 => ?_
      refine band_step (i 0).val 1 (128 * (i 0).val) 128 rfl (by decide) (by omega) (by omega) _ _ _ (off2_eq i hn) _ _ _ y fun n1 => ?_
      refine band_step (i 0).val 0 (128 * ((i 0).val - 1)) 0 rfl (by decide) (by omega) (by omega) _ _ _ (off1_eq i (by omega) hn) _ _ _ y fun n0 => ?_
      exact text_base _ hn _ _ y (by omega)
  · have c1 := fun h => hn ((cond1_iff i).1 h)
    have c5 := (cond5_iff i).2 (Nat.le_of_not_lt hn)
    simp only [dif_neg c1, dif_pos c5]
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine give _ fun y => ?_
    have h2 := t2 y
    unfold filled
    rw [if_neg hn]
    refine image_step (F := F) 96 3 rfl (by decide) (arg1.view.read (Elt F) f1) (arg2.view.read (Elt F) f2)
      (arg3.view.read (Elt F) f3) _ inb_S12x1x4x1024_S12x1x1x1024_0_0_3_0 _ rfl _ y fun n3 => ?_
    refine image_step (F := F) 64 2 rfl (by decide) (arg1.view.read (Elt F) f1) (arg2.view.read (Elt F) f2)
      (arg3.view.read (Elt F) f3) _ inb_S12x1x4x1024_S12x1x1x1024_0_0_2_0 _ rfl _ y fun n2 => ?_
    refine image_step (F := F) 32 1 rfl (by decide) (arg1.view.read (Elt F) f1) (arg2.view.read (Elt F) f2)
      (arg3.view.read (Elt F) f3) _ inb_S12x1x4x1024_S12x1x1x1024_0_0_1_0 _ rfl _ y fun n1 => ?_
    refine image_step (F := F) 0 0 rfl (by decide) (arg1.view.read (Elt F) f1) (arg2.view.read (Elt F) f2)
      (arg3.view.read (Elt F) f3) _ inb_S12x1x4x1024_S12x1x1x1024_0_0_0_0 _ rfl _ y fun n0 => ?_
    exact image_base (F := F) _ _ _ y (by omega)

end Cert.Proof.Fill

end
-- ==== Proof.Regions.lean ====
/- The two kernels as pipelines: for each, what its staging buffers hold around the body at every grid point, from any contents of
   the arrays at entry, and the body's obligation there. -/
module

public import proofs.«01_k».proof.Proof.BuildBody
public import proofs.«01_k».proof.Proof.FillBody
public import Idealize.ShloMosaic.Lib.Pipeline.FrameBody

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Proof.Build (distRow tileRow rowPart colPart bands)
open Cert.Proof.Fill (Res filled)

variable {F : FTy → Type} [FloatOps F]

/-- The contents of every buffer of the TensorCores when a kernel is entered. -/
abbrev Entry (F : FTy → Type) : Type := (c : Dev nD) → (b : Ref sig .tc) → Buf (Elt F) ((c : Thread nD τ).loc b)

variable (V : Entry F)

/-! ## The first kernel -/

/-- Window `w`'s block at point `t`. -/
def block0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the buffers hold around the first kernel's body. -/
def dat0 (c : Dev nD) : Dat τ (Elt F) Unit ℕ (UR sig nD τ) ℕ cfg0 c where
  A w := V c (Pipeline.arrRef spec0 w)
  after w t := match w with
    | ⟨0, _⟩ => block0 V c 0 t
    | ⟨1, _⟩ => block0 V c 1 t
    | ⟨2, _⟩ => block0 V c 2 t
    | ⟨3, _⟩ => block0 V c 3 t
    | ⟨4, _⟩ => block0 V c 4 t
    | ⟨5, _⟩ => block0 V c 5 t
    | ⟨6, _⟩ => block0 V c 6 t
    | ⟨7, _⟩ => distRow (block0 V c 0 t) (block0 V c 1 t) (block0 V c 2 t) (block0 V c 3 t)
    | ⟨8, _⟩ => tileRow (rowPart (block0 V c 0 t) (block0 V c 1 t) (block0 V c 4 t)) (block0 V c 5 t)
    | ⟨9, _⟩ => tileRow (colPart (block0 V c 2 t) (block0 V c 4 t)) (block0 V c 6 t)
    | ⟨10, _⟩ => bands (distRow (block0 V c 0 t) (block0 V c 1 t) (block0 V c 2 t) (block0 V c 3 t))
  Φ _ := Pipeline.ΦA spec0 c
  q _ := fullShare
  owed _ := 0

theorem array0 (c : Dev nD) (w : Fin cfg0.W) : (dat0 V c).A w = V c (Pipeline.arrRef spec0 w) := by
  dsimp only [dat0]

/-- Every input's buffer holds its block when the body starts. -/
theorem before0 (c : Dev nD) (t : Fin cfg0.N) :
    (∀ d, (dat0 V c).before 0 t d = block0 V c 0 t) ∧ (∀ d, (dat0 V c).before 1 t d = block0 V c 1 t)
      ∧ (∀ d, (dat0 V c).before 2 t d = block0 V c 2 t) ∧ (∀ d, (dat0 V c).before 3 t d = block0 V c 3 t)
      ∧ (∀ d, (dat0 V c).before 4 t d = block0 V c 4 t) ∧ (∀ d, (dat0 V c).before 5 t d = block0 V c 5 t)
      ∧ (∀ d, (dat0 V c).before 6 t d = block0 V c 6 t) := by
  refine ⟨fun d => ?_, fun d => ?_, fun d => ?_, fun d => ?_, fun d => ?_, fun d => ?_, fun d => ?_⟩ <;>
    exact (Dat.before_in_eq_fetched _ _ rfl (fun _ => rfl) (fun _ _ _ => rfl)
      (fun t => by unfold Dat.blockOf; rw [array0]; dsimp only [dat0, block0]; try rfl) t d).trans
      (by unfold Dat.fetched Dat.blockOf block0; rw [array0]; try rfl)

/-- The body at a point, between what the pipeline calls it with and what it returns. -/
theorem body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d))
      ∗ (∃ d, owns (c : Thread nD τ) (st0_9 t) fullShare ((dat0 V c).before 9 t d))
      ∗ (∃ d, owns (c : Thread nD τ) (st0_10 t) fullShare ((dat0 V c).before 10 t d)))
    ⊢ wp frame (wpE (defs₀ (F := F)) Variants.none c none) Set.univ (bodyAt0 t) (fun _ =>
      iprop((dat0 V c).Φ t.castSucc ∗ (dat0 V c).owesAt () t.castSucc
        ∗ owns (c : Thread nD τ) (st0_0 t) fullShare (block0 V c 0 t)
        ∗ owns (c : Thread nD τ) (st0_1 t) fullShare (block0 V c 1 t)
        ∗ owns (c : Thread nD τ) (st0_2 t) fullShare (block0 V c 2 t)
        ∗ owns (c : Thread nD τ) (st0_3 t) fullShare (block0 V c 3 t)
        ∗ owns (c : Thread nD τ) (st0_4 t) fullShare (block0 V c 4 t)
        ∗ owns (c : Thread nD τ) (st0_5 t) fullShare (block0 V c 5 t)
        ∗ owns (c : Thread nD τ) (st0_6 t) fullShare (block0 V c 6 t)
        ∗ owns (c : Thread nD τ) (st0_7 t) fullShare (distRow (block0 V c 0 t) (block0 V c 1 t) (block0 V c 2 t) (block0 V c 3 t))
        ∗ owns (c : Thread nD τ) (st0_8 t) fullShare (tileRow (rowPart (block0 V c 0 t) (block0 V c 1 t) (block0 V c 4 t)) (block0 V c 5 t))
        ∗ owns (c : Thread nD τ) (st0_9 t) fullShare (tileRow (colPart (block0 V c 2 t) (block0 V c 4 t)) (block0 V c 6 t))
        ∗ owns (c : Thread nD τ) (st0_10 t) fullShare
            (bands (distRow (block0 V c 0 t) (block0 V c 1 t) (block0 V c 2 t) (block0 V c 3 t))))) := by
  obtain ⟨e0, e1, e2, e3, e4, e5, e6⟩ := before0 V c t
  simp only [e0, e1, e2, e3, e4, e5, e6]
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (Build.body_run c Set.univ _ _ _ _ _ _ _ _ _ _ _ _ _ _ _ _ _ _ _ _ _ _ (block0 V c 0 t) (block0 V c 1 t) (block0 V c 2 t)
    (block0 V c 3 t) (block0 V c 4 t) (block0 V c 5 t) (block0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro H
  isplitl [HΦ]; · iexact HΦ
  isplitl [Ho]; · iexact Ho
  iexact H

/-- The first kernel's body obligation. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body0 V c t) rfl .rfl fun _ => .rfl

/-! ## The second kernel -/

/-- Window `w`'s block at point `t`. -/
def block1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the buffers hold around the second kernel's body. -/
def dat1 (c : Dev nD) : Dat τ (Elt F) Unit ℕ (UR sig nD τ) ℕ cfg1 c where
  A w := V c (Pipeline.arrRef spec1 w)
  after w t := match w with
    | ⟨0, _⟩ => block1 V c 0 t
    | ⟨1, _⟩ => block1 V c 1 t
    | ⟨2, _⟩ => block1 V c 2 t
    | ⟨3, _⟩ => block1 V c 3 t
    | ⟨4, _⟩ => filled (grid1.coords t 0).val (block1 V c 0 t) (block1 V c 1 t) (block1 V c 2 t) (block1 V c 3 t)
  Φ _ := Pipeline.ΦA spec1 c
  q _ := fullShare
  owed _ := 0

theorem array1 (c : Dev nD) (w : Fin cfg1.W) : (dat1 V c).A w = V c (Pipeline.arrRef spec1 w) := by
  dsimp only [dat1]

/-- The output's buffer after the body. -/
theorem after1 (c : Dev nD) (t : Fin cfg1.N) : (dat1 V c).after 4 t
    = filled (grid1.coords t 0).val (block1 V c 0 t) (block1 V c 1 t) (block1 V c 2 t) (block1 V c 3 t) := by
  dsimp only [dat1]

/-- Every input's buffer holds its block when the body starts. -/
theorem before1 (c : Dev nD) (t : Fin cfg1.N) :
    (∀ d, (dat1 V c).before 0 t d = block1 V c 0 t) ∧ (∀ d, (dat1 V c).before 1 t d = block1 V c 1 t)
      ∧ (∀ d, (dat1 V c).before 2 t d = block1 V c 2 t) ∧ (∀ d, (dat1 V c).before 3 t d = block1 V c 3 t) := by
  refine ⟨fun d => ?_, fun d => ?_, fun d => ?_, fun d => ?_⟩ <;>
    exact (Dat.before_in_eq_fetched _ _ rfl (fun _ => rfl) (fun _ _ _ => rfl)
      (fun t => by unfold Dat.blockOf; rw [array1]; dsimp only [dat1, block1]; try rfl) t d).trans
      (by unfold Dat.fetched Dat.blockOf block1; rw [array1]; try rfl)

/-- The body at a point, between what the pipeline calls it with and what it returns. -/
theorem body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t))) := by
  obtain ⟨e0, e1, e2, e3⟩ := before1 V c t
  have a0 : (dat1 V c).after 0 t = block1 V c 0 t := by dsimp only [dat1]
  have a1 : (dat1 V c).after 1 t = block1 V c 1 t := by dsimp only [dat1]
  have a2 : (dat1 V c).after 2 t = block1 V c 2 t := by dsimp only [dat1]
  have a3 : (dat1 V c).after 3 t = block1 V c 3 t := by dsimp only [dat1]
  simp only [e0, e1, e2, e3]
  rw [show (dat1 V c).Φ t.succ = (dat1 V c).Φ t.castSucc from rfl,
    show (dat1 V c).owesAt () t.succ = (dat1 V c).owesAt () t.castSucc from rfl, a0, a1, a2, a3, after1]
  unfold bodyAt1
  iintro ⟨HΦ, Ho, ⟨%d0, H0⟩, ⟨%d1, H1⟩, ⟨%d2, H2⟩, ⟨%d3, H3⟩, ⟨%d4, H4⟩⟩
  iapply (Fill.body_run c Set.univ (grid1.coords t) _ _ _ _ _ _ _ _ _ _ (block1 V c 0 t) (block1 V c 1 t) (block1 V c 2 t)
    (block1 V c 3 t) _)
  isplitl [H0]; · iexact H0
  isplitl [H1]; · iexact H1
  isplitl [H2]; · iexact H2
  isplitl [H3]; · iexact H3
  isplitl [H4]; · iexists _; iexact H4
  iintro H
  isplitl [HΦ]; · iexact HΦ
  isplitl [Ho]; · iexact Ho
  iexact H

/-- Every point of the second kernel stores its block. -/
theorem stores (i : grid1.Coords) : cfg1.idle 4 i = false := by
  show idle1 4 i = false
  have h1 : (k1_cond1 i == 1#1) = decide ((i 0).val < 8) := by
    rw [← Bool.decide_coe (k1_cond1 i == 1#1)]; exact decide_eq_decide.2 (beq_iff_eq.trans (Fill.cond1_iff i))
  have h5 : (k1_cond5 i == 1#1) = decide (8 ≤ (i 0).val) := by
    rw [← Bool.decide_coe (k1_cond5 i == 1#1)]; exact decide_eq_decide.2 (beq_iff_eq.trans (Fill.cond5_iff i))
  unfold idle1
  simp only [h1, h5]
  by_cases h : (i 0).val < 8
  · simp [h]
  · simp [Nat.le_of_not_lt h]

/-- The second kernel's body obligation. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  refine triple_restated (body1 V c t) rfl .rfl fun _ => ?_
  have h4 : idle1 4 (grid1.coords t) = false := stores (cfg1.grid.coords t)
  simp only [cfg1, h4]
  exact Entails.rfl

end Cert.Proof.Run

end
-- ==== Proof.Launch.lean ====
/- The launch of the whole program: the buffer contents at each boundary between its host operations and its two kernels, and one
   theorem for its run: the arguments end as launched, every counter ends at zero, and the result holds what the second
   kernel's write-backs leave. -/
module

public import proofs.«01_k».proof.Proof.Regions
public import Idealize.ShloMosaic.Lib.Pipeline.RegionsLoop
public import Idealize.ShloMosaic.Lib.Pipeline.FrameSuffix
public import Idealize.ShloMosaic.Lib.Ring
public import Idealize.ShloMosaic.Lib.UnfoldOut

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Proof.Fill (Res)

variable {F : FTy → Type} [FloatOps F]

variable (m : (ℓ : Loc nD τ sig) → Buf (Elt F) ℓ) (ρ : Dev nD → PrngReg)

/-! ## The host operations -/

/-- The buffers that are neither written by a host operation nor a kernel's result. -/
def Kept (r : Ref sig .tc) : Prop :=
  r ∉ [main_call0_cst, main_call0_c, main_call0_cst_0, main_call0_cst_1, main_call0_v1, main_call0_v2]
    ∧ (∀ w : Fin cfg0.W, Pipeline.arrRef spec0 w = r → (cfg0.win w).isOut = false)
    ∧ (∀ w : Fin cfg1.W, Pipeline.arrRef spec1 w = r → (cfg1.win w).isOut = false)

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem writes0 : (hostOps0 : List (HloOp τ sig (Elt F))).Forall fun op =>
    op.writes ⊆ (([main_call0_cst, main_call0_c, main_call0_cst_0, main_call0_cst_1] : List (Ref sig .tc)).map
      (Proc.devRef (τ := τ) .tc)).toFinset :=
  StableHlo.forall_writes_sub_of_map rfl
theorem writes1 : (hostOps1 : List (HloOp τ sig (Elt F))).Forall fun op =>
    op.writes ⊆ (([main_call0_v1, main_call0_v2] : List (Ref sig .tc)).map (Proc.devRef (τ := τ) .tc)).toFinset :=
  StableHlo.forall_writes_sub_of_map rfl

/-! ## The buffers at each boundary -/

/-- At launch. -/
abbrev W0 : Dev nD → Valuation τ sig (Elt F) := fun c b => (s₀ m ρ).mem ((c : Dev nD), b)
/-- When the first kernel is entered. -/
abbrev W1 : Dev nD → Valuation τ sig (Elt F) := fun c => StableHlo.after hostOps0 (W0 m ρ c)
abbrev V1 : Entry F := fun c b => W1 m ρ c b
/-- When the first kernel is left. -/
def W2 (c : Dev nD) : Valuation τ sig (Elt F) :=
  Pipeline.withArrays spec0 c (W1 m ρ c) fun w => (dat0 (V1 m ρ) c).arrAt w cfg0.N
abbrev V2 : Entry F := fun c b => W2 m ρ c b
/-- When the second kernel is entered. -/
abbrev W3 : Dev nD → Valuation τ sig (Elt F) := fun c => StableHlo.after hostOps1 (W2 m ρ c)
abbrev V3 : Entry F := fun c b => W3 m ρ c b
/-- When the second kernel is left. -/
def W4 (c : Dev nD) : Valuation τ sig (Elt F) :=
  Pipeline.withArrays spec1 c (W3 m ρ c) fun w => (dat1 (V3 m ρ) c).arrAt w cfg1.N
abbrev V4 : Entry F := fun c b => W4 m ρ c b

theorem W1_of (c : Dev nD) (r : Ref sig .tc) (h : r ∉ [main_call0_cst, main_call0_c, main_call0_cst_0, main_call0_cst_1]) :
    W1 m ρ c (Proc.devRef .tc r) = W0 m ρ c (Proc.devRef .tc r) :=
  StableHlo.after_of_writes_sub hostOps0 _ writes0 h
theorem W3_of (c : Dev nD) (r : Ref sig .tc) (h : r ∉ [main_call0_v1, main_call0_v2]) :
    W3 m ρ c (Proc.devRef .tc r) = W2 m ρ c (Proc.devRef .tc r) :=
  StableHlo.after_of_writes_sub hostOps1 _ writes1 h
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W2_other (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_other (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- The first kernel changes its results only. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (array0 (V1 m ρ) c w))
  · exact W2_other m ρ c r fun w e => hw ⟨w, e⟩

/-- The second kernel changes its result only. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (array1 (V3 m ρ) c w))
  · exact W4_other m ρ c r fun w e => hw ⟨w, e⟩

/-- A kept buffer ends as launched. -/
theorem W4_kept (c : Dev nD) (r : Ref sig .tc) (h : Kept r) : W4 m ρ c (Proc.devRef .tc r) = W0 m ρ c (Proc.devRef .tc r) :=
  (W4_of m ρ c r h.2.2).trans ((W3_of m ρ c r fun hr => h.1 (by simp only [List.mem_cons] at hr ⊢; tauto)).trans
    ((W2_of m ρ c r h.2.1).trans (W1_of m ρ c r fun hr => h.1 (by simp only [List.mem_cons] at hr ⊢; tauto))))

theorem kept_arg0 : Kept main_arg0 := ⟨by decide, by decide +kernel, by decide +kernel⟩
theorem kept_arg1 : Kept main_arg1 := ⟨by decide, by decide +kernel, by decide +kernel⟩
theorem kept_arg2 : Kept main_arg2 := ⟨by decide, by decide +kernel, by decide +kernel⟩

theorem left0 (c : Dev nD) (w : Fin cfg0.W) : (dat0 (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_other m ρ c b fun w e => hb (Finset.mem_image.mpr ⟨w, Finset.mem_univ _, e⟩)
theorem left1 (c : Dev nD) (w : Fin cfg1.W) : (dat1 (V3 m ρ) c).arrAt w cfg1.N = V4 m ρ c (Pipeline.arrRef spec1 w) :=
  (W4_arr m ρ c w).symm
theorem rest1 (c : Dev nD) : ∀ b, b ∉ Finset.univ.image (Pipeline.arrRef spec1) → V4 m ρ c b = V3 m ρ c b :=
  fun b hb => W4_other m ρ c b fun w e => hb (Finset.mem_image.mpr ⟨w, Finset.mem_univ _, e⟩)

/-! ## The steps of the run -/

/-- No kernel reads tables ahead of its grid. -/
abbrev adm : (p : Fin 2) → (pcfgs (F := F) p).Adm := fun p => (cfgs p).toPCfg_adm
/-- Each kernel's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core waits for another. -/
abbrev L : GSem nD τ sig → Finset Unit := fun _ => ∅
abbrev lv : GSem nD τ sig → Unit → ℕ := fun _ _ => 0
/-- Beside the buffers: the generator register, and nothing owed. -/
abbrev R (c : Dev nD) : sProp (Res F) := iprop((∃ r, prngReg c r) ∗ ∃ W, owes (c : Thread nD τ) (0 : CellTallies nD τ sig Unit) W)
/-- A stretch of host operations, over all unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end: every unscoped buffer at its final contents. -/
abbrev Tₙ (c : Dev nD) : sProp (Res F) := iprop(StableHlo.held (c : Thread nD τ) (Pipeline.ucRefs τ sig) (W4 m ρ c) ∗ ∃ r, prngReg c r)

set_option backward.isDefEq.respectTransparency.types false in
/-- The first kernel as a step of the run: its arrays are taken out of the held buffers and put back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (array0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel as a step of the run. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (array1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program's four steps. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ) ]
/-- The program is the run of its steps. -/
theorem main_run (c : Dev nD) : main (F := F) c = Pipeline.Seg.run (segs m ρ) := (main_chain c).trans (by chain_rfl)

/-- A TensorCore has only scoped semaphores. -/
theorem no_unscoped : ∀ sm : SemLoc sig, sm.isScoped .tc = true := by decide

set_option backward.isDefEq.respectTransparency.types false in
/-- The run: from any memory with zero counters every weakly fair execution ends, with nothing faulting; the result holds what the
    second kernel's write-backs leave, the arguments are as launched and every counter is zero. -/
theorem runs : θ_run defs (onTc (τ := τ) (main (F := F))) ⟨m, fun _ => 0, ρ⟩ (fun r => (∀ c : Dev nD,
      r.2.mem ((c.tc : Thread nD τ).loc main_v0) = (dat1 (V3 m ρ) c).arrAt 4 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v0 (by decide))).trans (W4_arr m ρ c 4),
       (h c _ (mem_uc main_arg0 (by decide))).trans (W4_kept m ρ c _ kept_arg0),
       (h c _ (mem_uc main_arg1 (by decide))).trans (W4_kept m ρ c _ kept_arg1),
       (h c _ (mem_uc main_arg2 (by decide))).trans (W4_kept m ρ c _ kept_arg2)⟩), funext fun g => hz g (.inr (no_unscoped g.2))⟩)

end Cert.Proof.Run

end
-- ==== Proof.Arrays.lean ====
/- The arrays between the host operations and the two kernels: what each kernel is entered with, and what it leaves. -/
module

public import proofs.«01_k».proof.Proof.Launch
public import Idealize.ShloMosaic.Lib.Pipeline.ValueKit.Geometry

@[expose] public section

set_option maxRecDepth 16384

noncomputable section

namespace Cert.Proof.Run

open Cert.KernelIdeal Cert.KernelIdeal.Gen
open Idealize.ShloMosaic Idealize.ShloMosaic.TcCoe Idealize.SL.Sem
open Idealize.ShloMosaic.Pipeline (Dat)
open Cert.Proof.Build (distRow tileRow rowPart colPart bands)
open Cert.Proof.Fill (filled)

variable {F : FTy → Type} [FloatOps F]

/-! ## The first kernel -/

/-- A window that is its whole array places an index at itself. -/
theorem whole_emb {G : Pipeline.Grid} (w : Pipeline.Window sig G) (t : Fin G.N) (h : ∀ a, w.index t a = 0)
    (y : (w.xblock (G.coords t)).Idx) (a : Fin w.shape.rank) : ((w.rect t).emb y a).val = (y a).val :=
  Pipeline.Window.rect_emb_val_of_index_zero _ _ _ (h a) _

section First
variable (V : Entry F) (c : Dev nD) (t : Fin cfg0.N)

theorem whole0_0 : block0 V c 0 t = V c main_arg0 :=
  funext fun y => congrArg (V c main_arg0) (funext fun a => Fin.ext (whole_emb win0_0 t (fun _ => rfl) y a))
theorem whole0_1 : block0 V c 1 t = V c main_arg1 :=
  funext fun y => congrArg (V c main_arg1) (funext fun a => Fin.ext (whole_emb win0_1 t (fun _ => rfl) y a))
theorem whole0_2 : block0 V c 2 t = V c main_arg2 :=
  funext fun y => congrArg (V c main_arg2) (funext fun a => Fin.ext (whole_emb win0_2 t (fun _ => rfl) y a))
theorem whole0_3 : block0 V c 3 t = V c main_call0_cst :=
  funext fun y => congrArg (V c main_call0_cst) (funext fun a => Fin.ext (whole_emb win0_3 t (fun _ => rfl) y a))
theorem whole0_4 : block0 V c 4 t = V c main_call0_c :=
  funext fun y => congrArg (V c main_call0_c) (funext fun a => Fin.ext (whole_emb win0_4 t (fun _ => rfl) y a))
theorem whole0_5 : block0 V c 5 t = V c main_call0_cst_0 :=
  funext fun y => congrArg (V c main_call0_cst_0) (funext fun a => Fin.ext (whole_emb win0_5 t (fun _ => rfl) y a))
theorem whole0_6 : block0 V c 6 t = V c main_call0_cst_1 :=
  funext fun y => congrArg (V c main_call0_cst_1) (funext fun a => Fin.ext (whole_emb win0_6 t (fun _ => rfl) y a))

theorem array0_7 : (dat0 V c).arrAt 7 cfg0.N
    = distRow (V c main_arg0) (V c main_arg1) (V c main_arg2) (V c main_call0_cst) := by
  refine (dat0 V c).arrAt_eq_of_covers 7 _ (by decide +kernel) fun t hf y => ?_
  blk_simp
  have e : (win0_7.blk t).view.emb y = y := funext fun a => Fin.ext (whole_emb win0_7 t (fun _ => rfl) y a)
  rw [e]
  show distRow (block0 V c 0 t) (block0 V c 1 t) (block0 V c 2 t) (block0 V c 3 t) y = _
  rw [whole0_0, whole0_1, whole0_2, whole0_3]

theorem array0_8 : (dat0 V c).arrAt 8 cfg0.N
    = tileRow (rowPart (V c main_arg0) (V c main_arg1) (V c main_call0_c)) (V c main_call0_cst_0) := by
  refine (dat0 V c).arrAt_eq_of_covers 8 _ (by decide +kernel) fun t hf y => ?_
  blk_simp
  have e : (win0_8.blk t).view.emb y = y := funext fun a => Fin.ext (whole_emb win0_8 t (fun _ => rfl) y a)
  rw [e]
  show tileRow (rowPart (block0 V c 0 t) (block0 V c 1 t) (block0 V c 4 t)) (block0 V c 5 t) y = _
  rw [whole0_0, whole0_1, whole0_4, whole0_5]

theorem array0_9 : (dat0 V c).arrAt 9 cfg0.N
    = tileRow (colPart (V c main_arg2) (V c main_call0_c)) (V c main_call0_cst_1) := by
  refine (dat0 V c).arrAt_eq_of_covers 9 _ (by decide +kernel) fun t hf y => ?_
  blk_simp
  have e : (win0_9.blk t).view.emb y = y := funext fun a => Fin.ext (whole_emb win0_9 t (fun _ => rfl) y a)
  rw [e]
  show tileRow (colPart (block0 V c 2 t) (block0 V c 4 t)) (block0 V c 6 t) y = _
  rw [whole0_2, whole0_4, whole0_6]

theorem array0_10 : (dat0 V c).arrAt 10 cfg0.N
    = bands (distRow (V c main_arg0) (V c main_arg1) (V c main_arg2) (V c main_call0_cst)) := by
  refine (dat0 V c).arrAt_eq_of_covers 10 _ (by decide +kernel) fun t hf y => ?_
  blk_simp
  have e : (win0_10.blk t).view.emb y = y := funext fun a => Fin.ext (whole_emb win0_10 t (fun _ => rfl) y a)
  rw [e]
  show bands (distRow (block0 V c 0 t) (block0 V c 1 t) (block0 V c 2 t) (block0 V c 3 t)) y = _
  rw [whole0_0, whole0_1, whole0_2, whole0_3]

end First

/-! ## The second kernel -/

/-- The result from the distance row, the two tile tables and the bands: row `q` by its block of 128 rows. -/
def assembled (d : Vec F S12x2048 .f32) (a : Vec F S12x32x1024 .f32) (b : Vec F S12x8x4x1024 .f32) (g : Vec F S12x128x384 .f32) :
    Vec F S1x12x2048x2048 .f32 := fun i =>
  filled ((i 2).val / 128) d a
    (fun z => b (ix4 (n0 := 12) (n1 := 8) (n2 := 4) (n3 := 1024) (z 0) ⟨((i 2).val / 128 - 8) % 8, Nat.mod_lt _ (by decide)⟩ (z 2) (z 3))) g
    (ix4 (n0 := 1) (n1 := 12) (n2 := 128) (n3 := 2048) 0 (i 1) ⟨(i 2).val % 128, Nat.mod_lt _ (by decide)⟩ (i 3))

/-- A point's block is its part of the result. -/
theorem assembled_at (d : Vec F S12x2048 .f32) (a : Vec F S12x32x1024 .f32) (b : Vec F S12x8x4x1024 .f32) (g : Vec F S12x128x384 .f32)
    (n : ℕ) (p : Vec F S12x1x4x1024 .f32)
    (hp : ∀ z, p z = b (ix4 (n0 := 12) (n1 := 8) (n2 := 4) (n3 := 1024) (z 0) ⟨(n - 8) % 8, Nat.mod_lt _ (by decide)⟩ (z 2) (z 3)))
    (y : S1x12x128x2048.Idx) (i : S1x12x2048x2048.Idx) (h1 : (i 1).val = (y 1).val) (h2 : (i 2).val = n * 128 + (y 2).val)
    (h3 : (i 3).val = (y 3).val) : filled n d a p g y = assembled d a b g i := by
  have l2 : (y 2).val < 128 := (y 2).isLt
  have hn : (i 2).val / 128 = n := by omega
  have hy : ix4 (n0 := 1) (n1 := 12) (n2 := 128) (n3 := 2048) 0 (i 1) ⟨(i 2).val % 128, Nat.mod_lt _ (by decide)⟩ (i 3) = y := by
    funext k
    match k with
    | ⟨0, _⟩ => exact Subsingleton.elim (α := Fin 1) _ _
    | ⟨1, _⟩ => exact Fin.ext h1
    | ⟨2, _⟩ => exact Fin.ext (by show (i 2).val % 128 = (y 2).val; omega)
    | ⟨3, _⟩ => exact Fin.ext h3
  unfold assembled
  rw [hy]
  subst hn
  exact congrArg (fun p => filled ((i 2).val / 128) d a p g y) (funext hp)

section Second
variable (V : Entry F) (c : Dev nD) (t : Fin cfg1.N)

theorem index1 : ∀ t : Fin cfg1.N, (∀ a, win1_0.index t a = 0) ∧ (∀ a, win1_1.index t a = 0) ∧ (∀ a, win1_3.index t a = 0)
    ∧ win1_2.index t = ![0, ((grid1.coords t 0).val - 8) % 8, 0, 0] ∧ win1_4.index t = ![0, 0, (grid1.coords t 0).val, 0] :=
  (by decide +kernel : ∀ t : Fin grid1.N, _)

theorem whole1_0 : block1 V c 0 t = V c main_call0_v0_0 :=
  funext fun y => congrArg (V c main_call0_v0_0) (funext fun a => Fin.ext (whole_emb win1_0 t (index1 t).1 y a))
theorem whole1_1 : block1 V c 1 t = V c main_call0_v1 :=
  funext fun y => congrArg (V c main_call0_v1) (funext fun a => Fin.ext (whole_emb win1_1 t (index1 t).2.1 y a))
theorem whole1_3 : block1 V c 3 t = V c main_call0_v0_3 :=
  funext fun y => congrArg (V c main_call0_v0_3) (funext fun a => Fin.ext (whole_emb win1_3 t (index1 t).2.2.1 y a))

/-- The third input's block: four rows of pixels. -/
theorem slab1_2 (z : S12x1x4x1024.Idx) : block1 V c 2 t z = V c main_call0_v2
    (ix4 (n0 := 12) (n1 := 8) (n2 := 4) (n3 := 1024) (z 0) ⟨((grid1.coords t 0).val - 8) % 8, Nat.mod_lt _ (by decide)⟩ (z 2) (z 3)) := by
  have e := (index1 t).2.2.2.1
  have l1 : (z 1).val < 1 := (z 1).isLt
  refine congrArg (V c main_call0_v2) (?_ : (win1_2.blk t).view.emb z = _)
  funext k; apply Fin.ext
  match k with
  | ⟨0, _⟩ => blk_simp [e]; rfl
  | ⟨1, _⟩ => blk_simp [e]
  | ⟨2, _⟩ => blk_simp [e]; rfl
  | ⟨3, _⟩ => blk_simp [e]; rfl

theorem array1_4 : (dat1 V c).arrAt 4 cfg1.N
    = assembled (V c main_call0_v0_0) (V c main_call0_v1) (V c main_call0_v2) (V c main_call0_v0_3) := by
  refine (dat1 V c).arrAt_eq_of_covers 4 _ (by decide +kernel) fun t hf y => ?_
  have e := (index1 t).2.2.2.2
  have e1 : ((win1_4.blk t).view.emb y 1).val = (y 1).val := by blk_simp [e]
  have e2 : ((win1_4.blk t).view.emb y 2).val = (grid1.coords t 0).val * 128 + (y 2).val := by blk_simp [e]
  have e3 : ((win1_4.blk t).view.emb y 3).val = (y 3).val := by blk_simp [e]
  show (dat1 V c).after 4 t y = assembled _ _ _ _ ((win1_4.blk t).view.emb y)
  rw [after1, whole1_0, whole1_1, whole1_3]
  exact assembled_at _ _ _ _ _ _ (slab1_2 V c t) y _ e1 e2 e3

end Second

/-! ## Between the kernels -/

variable (m : (ℓ : Loc nD τ sig) → Buf (Elt F) ℓ) (ρ : Dev nD → PrngReg) (c : Dev nD)

theorem V1_arg0 : V1 m ρ c main_arg0 = m ((c : Thread nD τ).loc main_arg0) := W1_of m ρ c main_arg0 (by decide)
theorem V1_arg1 : V1 m ρ c main_arg1 = m ((c : Thread nD τ).loc main_arg1) := W1_of m ρ c main_arg1 (by decide)
theorem V1_arg2 : V1 m ρ c main_arg2 = m ((c : Thread nD τ).loc main_arg2) := W1_of m ρ c main_arg2 (by decide)
theorem V1_cst : V1 m ρ c main_call0_cst = fun i => FloatOps.ofBits .f32 (lit0 (S32x2048.rowMajor i)) := by
  show StableHlo.after hostOps0 (W0 m ρ c) (Proc.devRef .tc main_call0_cst) = _
  after_results
  rfl
theorem V1_c : V1 m ρ c main_call0_c = fun i => lit1 (S1x1024.rowMajor i) := by
  show StableHlo.after hostOps0 (W0 m ρ c) (Proc.devRef .tc main_call0_c) = _
  after_results
  rfl
theorem V1_cst_0 : V1 m ρ c main_call0_cst_0 = fun i => FloatOps.ofBits .f32 (lit2 (S32x1024.rowMajor i)) := by
  show StableHlo.after hostOps0 (W0 m ρ c) (Proc.devRef .tc main_call0_cst_0) = _
  after_results
  rfl
theorem V1_cst_1 : V1 m ρ c main_call0_cst_1 = fun i => FloatOps.ofBits .f32 (lit3 (S32x1024.rowMajor i)) := by
  show StableHlo.after hostOps0 (W0 m ρ c) (Proc.devRef .tc main_call0_cst_1) = _
  after_results
  rfl

theorem V3_v1 : V3 m ρ c main_call0_v1 = shapeCast S12x32x1024 ((dat0 (V1 m ρ) c).arrAt 8 cfg0.N) shapeCasts_S12x32768_S12x32x1024 := by
  show StableHlo.after hostOps1 (W2 m ρ c) (Proc.devRef .tc main_call0_v1) = _
  after_results
  exact congrArg (fun x => shapeCast S12x32x1024 x shapeCasts_S12x32768_S12x32x1024) (W2_arr m ρ c 8)
theorem V3_v2 : V3 m ρ c main_call0_v2
    = shapeCast S12x8x4x1024 ((dat0 (V1 m ρ) c).arrAt 9 cfg0.N) shapeCasts_S12x32768_S12x8x4x1024 := by
  show StableHlo.after hostOps1 (W2 m ρ c) (Proc.devRef .tc main_call0_v2) = _
  after_results
  exact congrArg (fun x => shapeCast S12x8x4x1024 x shapeCasts_S12x32768_S12x8x4x1024) (W2_arr m ρ c 9)
theorem V3_row : V3 m ρ c main_call0_v0_0 = (dat0 (V1 m ρ) c).arrAt 7 cfg0.N :=
  (W3_of m ρ c main_call0_v0_0 (by decide)).trans (W2_arr m ρ c 7)
theorem V3_bands : V3 m ρ c main_call0_v0_3 = (dat0 (V1 m ρ) c).arrAt 10 cfg0.N :=
  (W3_of m ρ c main_call0_v0_3 (by decide)).trans (W2_arr m ρ c 10)

end Cert.Proof.Run

end
-- ==== Proof.Tables.lean ====
/- The bucket of a relative position, as natural numbers, and the kernel's four constant tables in terms of it. -/
module

public import proofs.«01_k».proof.KernelIdeal

@[expose] public section

namespace Cert.Proof

open Cert.KernelIdeal

/-- The bucket of a distance: the distance itself below 8, then half-octave steps from 8, 12, 16, 23, 32, 46, 64, 91 on. -/
def magnitude (n : ℕ) : ℕ :=
  if n < 8 then n else if n < 12 then 8 else if n < 16 then 9 else if n < 23 then 10 else if n < 32 then 11
  else if n < 46 then 12 else if n < 64 then 13 else if n < 91 then 14 else 15

/-- The bucket of key position `k` seen from query position `q`: keys after the query have 16 added. -/
def bucket (q k : ℕ) : ℕ := (if q < k then 16 else 0) + magnitude ((k - q) + (q - k))

theorem magnitude_lt (n : ℕ) : magnitude n < 16 := by unfold magnitude; split_ifs <;> omega
theorem bucket_lt (q k : ℕ) : bucket q k < 32 := by
  have := magnitude_lt ((k - q) + (q - k)); unfold bucket; split_ifs <;> omega
theorem bucket_self (q : ℕ) : bucket q q = 0 := by simp [bucket, magnitude]

/-- What holds of the 2048 entries of a table's block `s`. -/
def Block (P : ℕ → Prop) (s : ℕ) : Prop := ∀ a : Fin 16, ∀ b : Fin 128, P (2048 * s + (128 * a.val + b.val))

instance (P : ℕ → Prop) [DecidablePred P] (s : ℕ) : Decidable (Block P s) :=
  inferInstanceAs (Decidable (∀ a : Fin 16, ∀ b : Fin 128, P (2048 * s + (128 * a.val + b.val))))

/-- The printed one-hot entry: one where the two numbers agree. -/
def oneAt (a b : ℕ) : BitVec 32 := if a = b then 0x3F800000#32 else 0x00000000#32

set_option maxRecDepth 100000 in
theorem pixels_checked : ∀ a : Fin 8, ∀ b : Fin 128,
    lit1t (128 * a.val + b.val) = BitVec.ofNat 32 (bucket ((128 * a.val + b.val) / 32) ((128 * a.val + b.val) % 32)) := by
  decide +kernel

/-- The bucket of the distance in column `j` of the first table: `j - 1023`, and bucket 0 in the last column. -/
def distanceBucket (j : ℕ) : ℕ := if j = 2047 then 0 else bucket 1023 j

/-- Sixteen cases, one by one. -/
theorem of_sixteen {P : Fin 16 → Prop} (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) (h15 : P 15) (s : Fin 16) : P s :=
  match s with
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7
  | ⟨8, _⟩ => h8 | ⟨9, _⟩ => h9 | ⟨10, _⟩ => h10 | ⟨11, _⟩ => h11 | ⟨12, _⟩ => h12 | ⟨13, _⟩ => h13 | ⟨14, _⟩ => h14
  | ⟨15, _⟩ => h15 | ⟨_ + 16, h⟩ => absurd h (by omega)

/-- An index has its block, and two digits within it. -/
theorem of_blocks {n first : ℕ} {P : ℕ → Prop} (h : ∀ s : Fin n, Block P (first + s.val)) (i : ℕ) (lo : 2048 * first ≤ i)
    (hi : i < 2048 * (first + n)) : P i := by
  have e : 2048 * (first + (i / 2048 - first)) + (128 * (i % 2048 / 128) + i % 128) = i := by omega
  have := h ⟨i / 2048 - first, by omega⟩ ⟨i % 2048 / 128, by omega⟩ ⟨i % 128, by omega⟩
  simp only at this
  rwa [e] at this

theorem pixel_entry (i : Fin 1024) : lit1 i = BitVec.ofNat 32 (bucket (i.val / 32) (i.val % 32)) := by
  have e : 128 * (i.val / 128) + i.val % 128 = i.val := by omega
  have := pixels_checked ⟨i.val / 128, by omega⟩ ⟨i.val % 128, by omega⟩
  simp only at this
  rw [e] at this
  exact this

/-- Entry `i` of the distances' one-hot table, the columns' and the rows'. -/
def DistanceEntry (i : ℕ) : Prop := lit0t i = oneAt (distanceBucket (i % 2048)) (i / 2048)
def ColumnEntry (i : ℕ) : Prop := lit2t i = oneAt (i % 1024 % 32) (i / 1024)
def RowEntry (i : ℕ) : Prop := lit3t i = oneAt (i % 1024 / 32) (i / 1024)

noncomputable instance : DecidablePred DistanceEntry := fun i => decEq (lit0t i) (oneAt (distanceBucket (i % 2048)) (i / 2048))
noncomputable instance : DecidablePred ColumnEntry := fun i => decEq (lit2t i) (oneAt (i % 1024 % 32) (i / 1024))
noncomputable instance : DecidablePred RowEntry := fun i => decEq (lit3t i) (oneAt (i % 1024 / 32) (i / 1024))

end Cert.Proof

end
-- ==== Proof.LogBucket.lean ====
/- The reference computes the bucket of a distance of at least 8 by a logarithm. Over the real numbers its whole part is
   where the squares of the distances pass the powers of two, which gives the table of `magnitude`. -/
module

public import proofs.«01_k».proof.Proof.Tables
public import Idealize.ShloMosaic.PureOps.Ideal.Laws
public import Idealize.ShloMosaic.Lib.Pipeline.Value

@[expose] public section

noncomputable section

namespace Cert.Proof

open Idealize.ShloMosaic

/-! ## The printed constants -/

theorem eight_bits : Ideal.ofBits .f32 0x41000000#32 = ((8 : ℝ) : EReal) := by
  simp [Ideal.ofBits, Ideal.ieee]; norm_num; rw [← EReal.coe_mul]; norm_num
theorem sixteen_bits : Ideal.ofBits .f32 0x41800000#32 = ((16 : ℝ) : EReal) := by
  simp [Ideal.ofBits, Ideal.ieee]; norm_num; rw [← EReal.coe_mul]; norm_num
/-- What is added under the logarithm: the single-precision number next to a millionth. -/
abbrev tiny : ℝ := 8796093 / 2 ^ 43
theorem tiny_bits : Ideal.ofBits .f32 0x358637BD#32 = ((tiny : ℝ) : EReal) := by
  simp [Ideal.ofBits, Ideal.ieee]; norm_num; rw [← EReal.coe_mul]; norm_num

/-! ## The logarithm's whole part -/

/-- What is under the logarithm. -/
abbrev scaled (n : ℕ) : ℝ := (n : ℝ) / 8 + tiny
/-- The logarithm to base 16, eightfold. -/
abbrev octaves (n : ℕ) : ℝ := Real.log (scaled n) / Real.log 16 * 8

theorem scaled_pos (n : ℕ) : 0 < scaled n := by
  have : (0 : ℝ) ≤ (n : ℝ) := Nat.cast_nonneg n
  unfold scaled tiny; positivity

/-- The eightfold logarithm reaches `k` where the square reaches the `k`-th power of two. -/
theorem le_octaves (n k : ℕ) : (k : ℝ) ≤ octaves n ↔ (2 : ℝ) ^ k ≤ scaled n ^ 2 := by
  have hx := scaled_pos n
  have h2 : 0 < Real.log 2 := Real.log_pos (by norm_num)
  have h16 : Real.log 16 = 4 * Real.log 2 := by
    rw [show (16 : ℝ) = 2 ^ 4 by norm_num, Real.log_pow]; norm_num
  have e : octaves n = 2 * Real.log (scaled n) / Real.log 2 := by
    unfold octaves; rw [h16]; field_simp; ring
  rw [e, le_div_iff₀ h2, ← Real.log_le_log_iff (x := (2 : ℝ) ^ k) (y := scaled n ^ 2) (by positivity) (by positivity),
    Real.log_pow, Real.log_pow]
  norm_num

/-- So it reaches `k` from the distance `t` on, if `t` is where the square passes the power, with room to spare below. -/
theorem floor_octaves (n k t : ℕ) (lo : (2 : ℝ) ^ k ≤ ((t : ℝ) / 8) ^ 2)
    (hi : (((t : ℝ) - 1) / 8 + 1 / 100) ^ 2 < (2 : ℝ) ^ k) (ht : 1 ≤ t) : (k : ℤ) ≤ ⌊octaves n⌋ ↔ t ≤ n := by
  rw [Int.le_floor, Int.cast_natCast, le_octaves]
  have tp : (0 : ℝ) < tiny := by norm_num [tiny]
  have tl : tiny < (1 / 100 : ℝ) := by norm_num [tiny]
  have ht' : (1 : ℝ) ≤ (t : ℝ) := by exact_mod_cast ht
  constructor
  · intro h
    by_contra hn
    have hn' : (n : ℝ) ≤ (t : ℝ) - 1 := by
      have : n + 1 ≤ t := by omega
      have : (n : ℝ) + 1 ≤ (t : ℝ) := by exact_mod_cast this
      linarith
    have : scaled n ^ 2 ≤ (((t : ℝ) - 1) / 8 + 1 / 100) ^ 2 :=
      pow_le_pow_left₀ (scaled_pos n).le (by unfold scaled; linarith) 2
    linarith
  · intro h
    have h' : (t : ℝ) ≤ (n : ℝ) := by exact_mod_cast h
    exact lo.trans (pow_le_pow_left₀ (by positivity) (by unfold scaled; linarith) 2)

/-! ## The bucket of a long distance -/

/-- The program's logarithm of a distance, made an integer. -/
def logWord (x : EReal) : BitVec 32 :=
  Ideal.fptosi 32 (Ideal.div (Ideal.log (Ideal.div x (Ideal.ofBits .f32 0x41000000#32) + Ideal.ofBits .f32 0x358637BD#32))
    (Ideal.log (Ideal.ofBits .f32 0x41800000#32)) * Ideal.ofBits .f32 0x41000000#32)

theorem logWord_eq (n : ℕ) (h8 : 8 ≤ n) (h : n < 2048) :
    ∃ f : ℕ, f < 24 ∧ (f : ℤ) = ⌊octaves n⌋ ∧ logWord ((n : ℝ) : EReal) = BitVec.ofNat 32 f := by
  have hx := scaled_pos n
  have h0 : (0 : ℤ) ≤ ⌊octaves n⌋ := (floor_octaves n 0 8 (by norm_num) (by norm_num) (by norm_num)).mpr (by omega)
  have h24 : ¬ ((24 : ℕ) : ℤ) ≤ ⌊octaves n⌋ := fun c => by
    have := (floor_octaves n 24 32768 (by norm_num) (by norm_num) (by norm_num)).mp c
    omega
  have hv : 0 ≤ octaves n := by simpa using Int.le_floor.mp h0
  refine ⟨⌊octaves n⌋.toNat, by omega, by omega, ?_⟩
  have e : Ideal.div (Ideal.log (Ideal.div ((n : ℝ) : EReal) (Ideal.ofBits .f32 0x41000000#32) + Ideal.ofBits .f32 0x358637BD#32))
      (Ideal.log (Ideal.ofBits .f32 0x41800000#32)) * Ideal.ofBits .f32 0x41000000#32 = ((octaves n : ℝ) : EReal) := by
    rw [eight_bits, sixteen_bits, tiny_bits, Ideal.div_coe (by norm_num), ← EReal.coe_mul, ← EReal.coe_add]
    have l16 : Ideal.log ((16 : ℝ) : EReal) = ((Real.log 16 : ℝ) : EReal) := by
      show (if (16 : ℝ) ≤ 0 then ⊥ else ((Real.log 16 : ℝ) : EReal)) = _
      rw [if_neg (by norm_num)]
    have lx : Ideal.log (((n : ℝ) * (1 / 8) + tiny : ℝ) : EReal) = ((Real.log (scaled n) : ℝ) : EReal) := by
      have e' : (n : ℝ) * (1 / 8) + tiny = scaled n := by unfold scaled; ring
      rw [e']
      show (if scaled n ≤ 0 then ⊥ else ((Real.log (scaled n) : ℝ) : EReal)) = _
      rw [if_neg (not_le.mpr hx)]
    rw [l16, lx, Ideal.div_coe (Real.log_pos (by norm_num)).ne', ← EReal.coe_mul, ← EReal.coe_mul]
    congr 1
    unfold octaves; ring
  unfold logWord Ideal.fptosi
  rw [e, Ideal.toIntClamped_coe, if_pos hv]
  have : max (-((2 ^ (32 - 1) : ℕ) : ℤ)) (min (((2 ^ (32 - 1) : ℕ) : ℤ) - 1) ⌊octaves n⌋) = ((⌊octaves n⌋.toNat : ℕ) : ℤ) := by
    norm_num; omega
  rw [this, BitVec.ofInt_natCast]

/-- The words of a long distance's bucket. -/
theorem long_words : ∀ f : Fin 24, IntOp.minsi (8#32 + BitVec.ofNat 32 f.val) 15#32 = BitVec.ofNat 32 (min (8 + f.val) 15) := by
  decide +kernel

theorem long_bucket (n : ℕ) (h8 : 8 ≤ n) (h : n < 2048) :
    IntOp.minsi (8#32 + logWord ((n : ℝ) : EReal)) 15#32 = BitVec.ofNat 32 (magnitude n) := by
  obtain ⟨f, hf, hfl, hw⟩ := logWord_eq n h8 h
  rw [hw, long_words ⟨f, hf⟩]
  congr 1
  have t1 := floor_octaves n 1 12 (by norm_num) (by norm_num) (by norm_num)
  have t2 := floor_octaves n 2 16 (by norm_num) (by norm_num) (by norm_num)
  have t3 := floor_octaves n 3 23 (by norm_num) (by norm_num) (by norm_num)
  have t4 := floor_octaves n 4 32 (by norm_num) (by norm_num) (by norm_num)
  have t5 := floor_octaves n 5 46 (by norm_num) (by norm_num) (by norm_num)
  have t6 := floor_octaves n 6 64 (by norm_num) (by norm_num) (by norm_num)
  have t7 := floor_octaves n 7 91 (by norm_num) (by norm_num) (by norm_num)
  rw [← hfl] at t1 t2 t3 t4 t5 t6 t7
  simp only [Nat.cast_le] at t1 t2 t3 t4 t5 t6 t7
  unfold magnitude
  simp only
  split_ifs <;> omega

end Cert.Proof

end
-- ==== Proof.Words.lean ====
/- The reference's bucket of a relative position, computed in 32-bit words, is the bucket in natural numbers. -/
module

public import proofs.«01_k».proof.Proof.LogBucket
public import Idealize.ShloMosaic.Lib.Pointwise.Index

@[expose] public section

noncomputable section

namespace Cert.Proof

open Idealize.ShloMosaic

/-- The bucket of a relative position, as the reference computes it. -/
def bucketWord (w : BitVec 32) : BitVec 32 :=
  (IntOp.cmpi .slt (-w) 0#32).setWidth 32 * 16#32
    + Scalar.select (IntOp.cmpi .slt (IntOp.absi (-w)) 8#32) (IntOp.absi (-w))
        (IntOp.minsi (8#32 + logWord (((IntOp.absi (-w)).toInt : ℝ) : EReal)) 15#32)

/-- What the words are for a key `d` places after the query. -/
theorem after_words : ∀ d : Fin 1024, 0 < d.val →
    (IntOp.cmpi .slt (-BitVec.ofNat 32 d.val) 0#32).setWidth 32 * 16#32 = BitVec.ofNat 32 16
      ∧ IntOp.absi (-BitVec.ofNat 32 d.val) = BitVec.ofNat 32 d.val := by
  decide +kernel

/-- What they are for a key `d` places before it, or at it. -/
theorem before_words : ∀ d : Fin 1024,
    (IntOp.cmpi .slt (-(-BitVec.ofNat 32 d.val)) 0#32).setWidth 32 * 16#32 = BitVec.ofNat 32 0
      ∧ IntOp.absi (-(-BitVec.ofNat 32 d.val)) = BitVec.ofNat 32 d.val := by
  decide +kernel

theorem short_words : ∀ d : Fin 1024,
    IntOp.cmpi .slt (BitVec.ofNat 32 d.val) 8#32 = BitVec.ofBool (decide (d.val < 8)) ∧ (BitVec.ofNat 32 d.val).toInt = (d.val : ℤ) := by
  decide +kernel

/-- The bucket from the distance's word. -/
theorem magnitude_word (d : ℕ) (hd : d < 1024) :
    Scalar.select (IntOp.cmpi .slt (BitVec.ofNat 32 d) 8#32) (BitVec.ofNat 32 d)
      (IntOp.minsi (8#32 + logWord (((BitVec.ofNat 32 d).toInt : ℝ) : EReal)) 15#32) = BitVec.ofNat 32 (magnitude d) := by
  obtain ⟨h1, h2⟩ := short_words ⟨d, hd⟩
  simp only at h1 h2
  rw [h1, h2]
  unfold Scalar.select
  by_cases h : d < 8
  · rw [decide_eq_true h, if_pos (show BitVec.ofBool true = 1 by decide)]
    congr 1; unfold magnitude; rw [if_pos h]
  · rw [decide_eq_false h, if_neg (show ¬ BitVec.ofBool false = 1 by decide), Int.cast_natCast]
    exact long_bucket d (by omega) (by omega)

/-- The reference's bucket of the relative position of `k` from `q`. -/
theorem bucketWord_sub (q k : ℕ) (hq : q < 1024) (hk : k < 1024) :
    bucketWord (BitVec.ofNat 32 k - BitVec.ofNat 32 q) = BitVec.ofNat 32 (bucket q k) := by
  unfold bucketWord bucket
  by_cases h : q < k
  · have e : BitVec.ofNat 32 k - BitVec.ofNat 32 q = BitVec.ofNat 32 (k - q) := by
      apply BitVec.eq_of_toNat_eq
      simp only [BitVec.toNat_sub, BitVec.toNat_ofNat]
      omega
    obtain ⟨h1, h2⟩ := after_words ⟨k - q, by omega⟩ (by show 0 < k - q; omega)
    simp only at h1 h2
    rw [e, h1, h2, magnitude_word _ (by omega), if_pos h, BitVec.ofNat_add, show k - q + (q - k) = k - q by omega]
  · have e : BitVec.ofNat 32 k - BitVec.ofNat 32 q = -BitVec.ofNat 32 (q - k) := by
      apply BitVec.eq_of_toNat_eq
      simp only [BitVec.toNat_sub, BitVec.toNat_ofNat, BitVec.toNat_neg]
      omega
    obtain ⟨h1, h2⟩ := before_words ⟨q - k, by omega⟩
    simp only at h1 h2
    rw [e, h1, h2, magnitude_word _ (by omega), if_neg h, BitVec.ofNat_add, show k - q + (q - k) = q - k by omega]

theorem bucketWord_zero : bucketWord 0#32 = 0#32 := by
  have := bucketWord_sub 0 0 (by decide) (by decide)
  rwa [bucket_self] at this

/-- A bucket, read back as a column of a table. -/
theorem bucket_index : ∀ b : Fin 32, min (BitVec.ofNat 32 b.val).toInt.toNat 31 = b.val := by decide +kernel

/-! ## The bias both programs compute -/

/-- The bucket on the text's axis. -/
def textBucket (q k : ℕ) : ℕ := if q < 1024 ∧ k < 1024 then bucket q k else 0
/-- The bucket on an image's axis, where `axis` is a pixel's coordinate. -/
def imageBucket (axis : ℕ → ℕ) (q k : ℕ) : ℕ := if ¬ q < 1024 ∧ ¬ k < 1024 then bucket (axis (q - 1024)) (axis (k - 1024)) else 0

theorem textBucket_lt (q k : ℕ) : textBucket q k < 32 := by unfold textBucket; split_ifs; exacts [bucket_lt _ _, by decide]
theorem imageBucket_lt (axis : ℕ → ℕ) (q k : ℕ) : imageBucket axis q k < 32 := by
  unfold imageBucket; split_ifs; exacts [bucket_lt _ _, by decide]

/-- A pixel's column and row. -/
def columnOf (i : ℕ) : ℕ := i % 32
def rowOf (i : ℕ) : ℕ := i / 32

/-- A table of biases: 12 heads, 32 buckets. -/
abbrev Table : Type := (⟨2, ![12, 32]⟩ : Shape).Idx → EReal

/-- A table's entry for a head and a bucket. -/
abbrev entry (t : Table) (h : Fin 12) (b : ℕ) (hb : b < 32) : EReal := t (ix2 (n0 := 12) (n1 := 32) h ⟨b, hb⟩)

/-- The bias of a head, a query and a key. -/
def bias (t0 t1 t2 : Table) (h : Fin 12) (q k : ℕ) : EReal :=
  entry t0 h (textBucket q k) (textBucket_lt q k) + entry t1 h (imageBucket columnOf q k) (imageBucket_lt _ q k)
    + entry t2 h (imageBucket rowOf q k) (imageBucket_lt _ q k)

end Cert.Proof

end
-- ==== Proof.Picks.lean ====
/- The first kernel's outputs over the extended reals, entry by entry: a product with a one-hot table picks one entry, and so does
   a chain of selections. -/
module

public import proofs.«01_k».proof.Proof.BuildValues
public import proofs.«01_k».proof.Proof.Tables
public import proofs.«01_k».proof.Proof.Words
public import Idealize.ShloMosaic.Lib.Pointwise.Contract
public import Idealize.ShloMosaic.PureOps.Ideal.Laws

@[expose] public section

noncomputable section

namespace Cert.Proof.Picks

open Idealize.ShloMosaic Idealize.SL.Sem Cert.KernelIdeal Cert.KernelIdeal.Gen
open Cert.Proof.Build (distRow tileRow rowPart colPart bands pickBelow col)

/-! ## One-hot entries -/

theorem one_bits : Ideal.ofBits .f32 0x3F800000#32 = 1 := by
  simp [Ideal.ofBits, Ideal.ieee]; norm_num; rw [← EReal.coe_mul]; norm_num

theorem oneAt_value (a b : ℕ) : Ideal.ofBits .f32 (oneAt a b) = if a = b then 1 else 0 := by
  unfold oneAt
  split_ifs
  · exact one_bits
  · exact Ideal.ofBits_zero_f32

/-- A sum of products with a one-hot column is the entry it names. -/
theorem pick_sum (f w : Fin 32 → EReal) (b : ℕ) (hb : b < 32) (hw : ∀ k, w k = Ideal.ofBits .f32 (oneAt b k.val)) :
    ∑ k, f k * w k = f ⟨b, hb⟩ := by
  refine (Finset.sum_eq_single (⟨b, hb⟩ : Fin 32) (fun k _ hk => ?_) (fun h => absurd (Finset.mem_univ _) h)).trans ?_
  · rw [hw, oneAt_value, if_neg (fun e => hk (Fin.ext e.symm)), mul_zero]
  · rw [hw, oneAt_value, if_pos rfl, mul_one]

/-! ## The two products -/

theorem product_wide (a : FVec Ideal S12x32 .f32) (w : FVec Ideal S32x2048 .f32) (y : S12x2048.Idx) :
    matmul dot_S12x32_S32x2048_S12x2048_1_0_0_1_n_n (some .fp32) a w (constant S12x2048 .f32 0x00000000#32) y
      = (∑ k : Fin 32, a (ix2 (n0 := 12) (n1 := 32) (y 0) k) * w (ix2 (n0 := 32) (n1 := 2048) k (y 1)) : EReal) := by
  refine (Ideal.matmul_apply₁_of dot_S12x32_S32x2048_S12x2048_1_0_0_1_n_n rfl rfl a w _ y
    (fun k => ix2 (n0 := 12) (n1 := 32) (y 0) k) (fun k => ix2 (n0 := 32) (n1 := 2048) k (y 1))
    (fun k => by funext b; match b with | ⟨0, _⟩ => rfl | ⟨1, _⟩ => rfl)
    (fun k => by funext b; match b with | ⟨0, _⟩ => rfl | ⟨1, _⟩ => rfl)).trans ?_
  refine (congrArg (· + _) Ideal.ofBits_zero_f32).trans ?_
  exact zero_add _

theorem product_tile (a : FVec Ideal S12x32 .f32) (w : FVec Ideal S32x1024 .f32) (y : S12x1024.Idx) :
    matmul (F := Ideal) dot_S12x32_S32x1024_S12x1024_1_0_0_1_n_n (some .fp32) a w (constant S12x1024 .f32 0x00000000#32) y
      = (∑ k : Fin 32, a (ix2 (n0 := 12) (n1 := 32) (y 0) k) * w (ix2 (n0 := 32) (n1 := 1024) k (y 1)) : EReal) := by
  refine (Ideal.matmul_apply₁_of dot_S12x32_S32x1024_S12x1024_1_0_0_1_n_n rfl rfl a w _ y
    (fun k => ix2 (n0 := 12) (n1 := 32) (y 0) k) (fun k => ix2 (n0 := 32) (n1 := 1024) k (y 1))
    (fun k => by funext b; match b with | ⟨0, _⟩ => rfl | ⟨1, _⟩ => rfl)
    (fun k => by funext b; match b with | ⟨0, _⟩ => rfl | ⟨1, _⟩ => rfl)).trans ?_
  refine (congrArg (· + _) Ideal.ofBits_zero_f32).trans ?_
  exact zero_add _

/-! ## The kernel's outputs -/

theorem distanceBucket_lt (j : ℕ) : distanceBucket j < 32 := by
  unfold distanceBucket; split_ifs; exacts [by decide, bucket_lt _ _]

/-- A table's first column, spread over the distances. -/
theorem first_col (t : Vec Ideal S12x32 .f32) (y : S12x2048.Idx) :
    broadcastTo S12x2048 (col t 0) broadcasts_S12x1_S12x2048 y = t (ix2 (n0 := 12) (n1 := 32) (y 0) 0) := by
  refine (broadcastTo_apply _ broadcasts_S12x1_S12x2048 y (ix2 (n0 := 12) (n1 := 1) (y 0) 0)
    (fun a => match a with | ⟨0, _⟩ => rfl | ⟨1, _⟩ => rfl)).trans ?_
  refine (congrFun (View.ld_unit _ _ _ _) _).trans ?_
  exact extractStridedSlice_apply _ _ _ _ _ (fun a => match a with
    | ⟨0, _⟩ => (Nat.zero_add _).symm
    | ⟨1, _⟩ => rfl)

/-- The distance row at a distance. -/
theorem distRow_at (t0 t1 t2 : Vec Ideal S12x32 .f32) (w : Vec Ideal S32x2048 .f32)
    (hw : ∀ (b : Fin 32) (j : Fin 2048), w (ix2 (n0 := 32) (n1 := 2048) b j) = Ideal.ofBits .f32 (oneAt (distanceBucket j.val) b.val))
    (h : Fin 12) (j : Fin 2048) :
    distRow t0 t1 t2 w (ix2 (n0 := 12) (n1 := 2048) h j)
      = (entry t0 h (distanceBucket j.val) (distanceBucket_lt _) + entry t1 h 0 (by decide) + entry t2 h 0 (by decide) : EReal) :=
  congrArg₂ (fun x y : EReal => x + y)
    (congrArg₂ (fun x y : EReal => x + y)
      ((product_wide t0 w _).trans (pick_sum _ _ _ (distanceBucket_lt _) fun b => hw b j))
      (first_col t1 _))
    (first_col t2 _)

/-- A row of tiles at a column. -/
theorem tileRow_at (a : FVec Ideal S12x1024 .f32) (w : Vec Ideal S32x1024 .f32) (f : ℕ → ℕ) (hf : ∀ j, j < 1024 → f j < 32)
    (hw : ∀ (b : Fin 32) (j : Fin 1024), w (ix2 (n0 := 32) (n1 := 1024) b j) = Ideal.ofBits .f32 (oneAt (f j.val) b.val))
    (h : Fin 12) (n : Fin 32768) (k : Fin 1024) (hk : k.val = 32 * (n.val / 1024) + f (n.val % 1024)) :
    tileRow a w (ix2 (n0 := 12) (n1 := 32768) h n) = a (ix2 (n0 := 12) (n1 := 1024) h k) := by
  refine (product_tile _ w _).trans ((pick_sum _ _ (f (n.val % 1024)) (hf _ (Nat.mod_lt _ (by decide)))
    fun b => hw b ⟨n.val % 1024, Nat.mod_lt _ (by decide)⟩).trans ?_)
  exact congrArg (fun k => a (ix2 (n0 := 12) (n1 := 1024) h k)) (Fin.ext hk.symm)

theorem ofNat_inj : ∀ a b : Fin 32, BitVec.ofNat 32 a.val = BitVec.ofNat 32 b.val → a.val = b.val := by decide +kernel

/-- The chain of selections at an index the vector gives as `b`. -/
theorem pickBelow_at (tab : Vec Ideal S12x32 .f32) (x : Vec Ideal S1x1024 .i32) (h : Fin 12) (j : Fin 1024) (b : ℕ) (hb : b < 32)
    (hx : x (ix2 (n0 := 1) (n1 := 1024) 0 j) = BitVec.ofNat 32 b) :
    ∀ n, n ≤ 32 → b < n → pickBelow tab x h j n = entry tab h b hb
  | 0, _, hn => absurd hn (Nat.not_lt_zero _)
  | n + 1, hle, hn => by
    unfold pickBelow
    by_cases e : b = n
    · subst e
      refine (if_pos hx).trans ?_
      exact congrArg (fun k => tab (ix2 (n0 := 12) (n1 := 32) h k)) (Fin.ext (Nat.mod_eq_of_lt hb))
    · refine (if_neg fun hc => e ?_).trans (pickBelow_at tab x h j b hb hx n (by omega) (by omega))
      exact ofNat_inj ⟨b, hb⟩ ⟨n, by omega⟩ (hx.symm.trans hc)

/-- The row part at tile position `r`, pixel coordinate `s`. -/
theorem rowPart_at (t0 t1 : Vec Ideal S12x32 .f32) (x : Vec Ideal S1x1024 .i32) (h : Fin 12) (j : Fin 1024) (b : ℕ) (hb : b < 32)
    (hx : x (ix2 (n0 := 1) (n1 := 1024) 0 j) = BitVec.ofNat 32 b) :
    rowPart t0 t1 x (ix2 (n0 := 12) (n1 := 1024) h j) = (entry t1 h b hb + entry t0 h 0 (by decide) : EReal) :=
  congrArg (fun z : EReal => z + t0 (ix2 (n0 := 12) (n1 := 32) h 0)) (pickBelow_at t1 x h j b hb hx 32 le_rfl hb)

theorem colPart_at (t2 : Vec Ideal S12x32 .f32) (x : Vec Ideal S1x1024 .i32) (h : Fin 12) (j : Fin 1024) (b : ℕ) (hb : b < 32)
    (hx : x (ix2 (n0 := 1) (n1 := 1024) 0 j) = BitVec.ofNat 32 b) :
    colPart t2 x (ix2 (n0 := 12) (n1 := 1024) h j) = entry t2 h b hb :=
  pickBelow_at t2 x h j b hb hx 32 le_rfl hb

end Cert.Proof.Picks

end
-- ==== Proof.DistancesBefore.lean ====
/- The distances' one-hot table, its rows for the buckets below 16, entry by entry. -/
module

public import proofs.«01_k».proof.Proof.Tables

@[expose] public section

namespace Cert.Proof

set_option maxRecDepth 100000 in
set_option maxHeartbeats 40000000 in
theorem distances_before : ∀ s : Fin 16, Block DistanceEntry (0 + s.val) := by
  apply of_sixteen <;> decide +kernel

end Cert.Proof

end
-- ==== Proof.DistancesAfter.lean ====
/- The distances' one-hot table, its rows for the buckets from 16 on, entry by entry. -/
module

public import proofs.«01_k».proof.Proof.Tables

@[expose] public section

namespace Cert.Proof

set_option maxRecDepth 100000 in
set_option maxHeartbeats 40000000 in
theorem distances_after : ∀ s : Fin 16, Block DistanceEntry (16 + s.val) := by
  apply of_sixteen <;> decide +kernel

end Cert.Proof

end
-- ==== Proof.Columns.lean ====
/- The one-hot table of the pixels' columns, entry by entry. -/
module

public import proofs.«01_k».proof.Proof.Tables

@[expose] public section

namespace Cert.Proof

set_option maxRecDepth 100000 in
set_option maxHeartbeats 40000000 in
theorem columns_checked : ∀ s : Fin 16, Block ColumnEntry (0 + s.val) := by
  apply of_sixteen <;> decide +kernel

end Cert.Proof

end
-- ==== Proof.Rows.lean ====
/- The one-hot table of the pixels' rows, entry by entry. -/
module

public import proofs.«01_k».proof.Proof.Tables

@[expose] public section

namespace Cert.Proof

set_option maxRecDepth 100000 in
set_option maxHeartbeats 40000000 in
theorem rows_checked : ∀ s : Fin 16, Block RowEntry (0 + s.val) := by
  apply of_sixteen <;> decide +kernel

end Cert.Proof

end
-- ==== Proof.Equation.lean ====
/- The kernel's result over the extended reals: at every head, query and key it is the bias that the reference computes. -/
module

public import proofs.«01_k».proof.Proof.Arrays
public import proofs.«01_k».proof.Proof.Picks
public import proofs.«01_k».proof.Proof.DistancesBefore
public import proofs.«01_k».proof.Proof.DistancesAfter
public import proofs.«01_k».proof.Proof.Columns
public import proofs.«01_k».proof.Proof.Rows

@[expose] public section

set_option maxRecDepth 16384

noncomputable section

namespace Cert.Proof.Equation

open Cert.KernelIdeal Cert.KernelIdeal.Gen
open Idealize.ShloMosaic Idealize.ShloMosaic.TcCoe Idealize.SL.Sem
open Cert.Proof.Build (distRow tileRow rowPart colPart bands)
open Cert.Proof.Fill (filled textRows imageRows)
open Cert.Proof.Run Cert.Proof.Picks

/-! ## Buckets -/

theorem magnitude_far (n : ℕ) (h : 91 ≤ n) : magnitude n = 15 := by unfold magnitude; split_ifs <;> omega

/-- The bucket depends on the difference of the positions only. -/
theorem distanceBucket_shift (q k : ℕ) (hq : q < 1024) (hk : k < 1024) : distanceBucket (1023 + k - q) = bucket q k := by
  unfold distanceBucket bucket
  rw [if_neg (by omega), show 1023 + k - q - 1023 + (1023 - (1023 + k - q)) = k - q + (q - k) by omega]
  exact congrArg (· + _) (if_congr (by omega) rfl rfl)

theorem distanceBucket_same : distanceBucket 1023 = 0 := by
  unfold distanceBucket; rw [if_neg (by decide)]; exact bucket_self _

theorem bucket_far_before (q k : ℕ) (h : k + 91 ≤ q) : bucket q k = 15 := by
  unfold bucket; rw [if_neg (by omega), magnitude_far _ (by omega)]
theorem bucket_far_after (q k : ℕ) (h : q + 91 ≤ k) : bucket q k = 31 := by
  unfold bucket; rw [if_pos (by omega), magnitude_far _ (by omega)]

theorem entry_congr (t : Table) (h : Fin 12) {b b' : ℕ} (hb : b < 32) (hb' : b' < 32) (e : b = b') : entry t h b hb = entry t h b' hb' := by
  subst e; rfl

/-! ## The assembly -/

section Assembly
variable (t0 t1 t2 : Table) (d : Vec Ideal S12x2048 .f32) (a : Vec Ideal S12x32x1024 .f32) (b : Vec Ideal S12x8x4x1024 .f32)
  (g : Vec Ideal S12x128x384 .f32)

/-- What the distance row holds. -/
def RowHolds : Prop := ∀ (h : Fin 12) (j : Fin 2048), d (ix2 (n0 := 12) (n1 := 2048) h j)
  = (entry t0 h (distanceBucket j.val) (distanceBucket_lt _) + entry t1 h 0 (by decide) + entry t2 h 0 (by decide) : EReal)
/-- What the tiles of the columns hold. -/
def ColumnsHold : Prop := ∀ (h : Fin 12) (r : Fin 32) (j : Fin 1024), a (ix3 (n0 := 12) (n1 := 32) (n2 := 1024) h r j)
  = (entry t1 h (bucket r.val (j.val % 32)) (bucket_lt _ _) + entry t0 h 0 (by decide) : EReal)
/-- What the tiles of the rows hold. -/
def RowsHold : Prop := ∀ (h : Fin 12) (x : Fin 8) (y : Fin 4) (j : Fin 1024), b (ix4 (n0 := 12) (n1 := 8) (n2 := 4) (n3 := 1024) h x y j)
  = (entry t2 h (bucket (4 * x.val + y.val) (j.val / 32)) (bucket_lt _ _) : EReal)

variable {t0 t1 t2 d a b g}

/-- An entry of the distance row is the bias of two tokens that are not both pixels. -/
theorem row_bias (hd : RowHolds t0 t1 t2 d) (h : Fin 12) (q k : ℕ) (j : Fin 2048) (hi : q < 1024 ∨ k < 1024)
    (e : distanceBucket j.val = textBucket q k) : d (ix2 (n0 := 12) (n1 := 2048) h j) = bias t0 t1 t2 h q k := by
  have z : ∀ axis, imageBucket axis q k = 0 := fun axis => if_neg (by tauto)
  exact (hd h j).trans (congrArg₂ (fun x y : EReal => x + y) (congrArg₂ (fun x y : EReal => x + y)
    (entry_congr _ _ _ _ e) (entry_congr _ _ _ _ (z _).symm)) (entry_congr _ _ _ _ (z _).symm))

theorem text_rows (hd : RowHolds t0 t1 t2 d) (hg : g = bands d) (h : Fin 12) (q k : Fin 2048) (hq : q.val < 1024) :
    textRows (q.val / 128) d g (ix4 (n0 := 1) (n1 := 12) (n2 := 128) (n3 := 2048) 0 h ⟨q.val % 128, Nat.mod_lt _ (by decide)⟩ k)
      = bias t0 t1 t2 h q.val k.val := by
  subst hg
  show (if 1024 ≤ k.val then d (ix2 (n0 := 12) (n1 := 2048) h ⟨1023, by decide⟩)
    else if hb : 128 * (q.val / 128) ≤ k.val + 128 ∧ k.val < 128 * (q.val / 128) + 256 then
      d (ix2 (n0 := 12) (n1 := 2048) h ⟨895 + (k.val + 128 - 128 * (q.val / 128)) - q.val % 128, _⟩)
    else if k.val < 128 * (q.val / 128) then d (ix2 (n0 := 12) (n1 := 2048) h ⟨0, by decide⟩)
    else d (ix2 (n0 := 12) (n1 := 2048) h ⟨2046, by decide⟩)) = _
  split_ifs with hk hb hl
  · exact row_bias hd h _ _ _ (.inl hq) (distanceBucket_same.trans (if_neg (by omega)).symm)
  · refine row_bias hd h _ _ _ (.inl hq) ?_
    show distanceBucket (895 + (k.val + 128 - 128 * (q.val / 128)) - q.val % 128) = _
    rw [show 895 + (k.val + 128 - 128 * (q.val / 128)) - q.val % 128 = 1023 + k.val - q.val by omega]
    exact (distanceBucket_shift _ _ hq (by omega)).trans (if_pos ⟨hq, by omega⟩).symm
  · refine row_bias hd h _ _ _ (.inl hq) (Eq.trans ?_ (if_pos ⟨hq, by omega⟩).symm)
    exact ((if_neg (by decide)).trans (bucket_far_before 1023 0 (by decide))).trans (bucket_far_before _ _ (by omega)).symm
  · refine row_bias hd h _ _ _ (.inl hq) (Eq.trans ?_ (if_pos ⟨hq, by omega⟩).symm)
    exact ((if_neg (by decide)).trans (bucket_far_after 1023 2046 (by decide))).trans (bucket_far_after _ _ (by omega)).symm

theorem image_rows (hd : RowHolds t0 t1 t2 d) (ha : ColumnsHold t0 t1 a) (hb : RowsHold t2 b) (h : Fin 12) (q k : Fin 2048)
    (hq : ¬ q.val < 1024) :
    imageRows d a (fun z => b (ix4 (n0 := 12) (n1 := 8) (n2 := 4) (n3 := 1024) (z 0) ⟨(q.val / 128 - 8) % 8, Nat.mod_lt _ (by decide)⟩ (z 2) (z 3)))
      (ix4 (n0 := 1) (n1 := 12) (n2 := 128) (n3 := 2048) 0 h ⟨q.val % 128, Nat.mod_lt _ (by decide)⟩ k)
      = bias t0 t1 t2 h q.val k.val := by
  have lq : q.val < 2048 := q.isLt
  have lk : k.val < 2048 := k.isLt
  by_cases hk : 1024 ≤ k.val
  · have both : ¬ q.val < 1024 ∧ ¬ k.val < 1024 := ⟨hq, by omega⟩
    refine (if_pos hk).trans ?_
    refine (congrArg₂ (fun x y : EReal => x + y) (ha h ⟨q.val % 128 % 32, Nat.mod_lt _ (by decide)⟩ ⟨k.val % 1024, Nat.mod_lt _ (by decide)⟩)
      (hb h ⟨(q.val / 128 - 8) % 8, Nat.mod_lt _ (by decide)⟩ ⟨q.val % 128 / 32 % 4, Nat.mod_lt _ (by decide)⟩
        ⟨k.val % 1024, Nat.mod_lt _ (by decide)⟩)).trans ?_
    refine (congrArg (fun x : EReal => x + _) (add_comm _ _)).trans ?_
    refine congrArg₂ (fun x y : EReal => x + y) (congrArg₂ (fun x y : EReal => x + y) (entry_congr _ _ _ _ ?_) (entry_congr _ _ _ _ ?_))
      (entry_congr _ _ _ _ ?_)
    · exact (if_neg (by omega)).symm
    · refine Eq.trans ?_ (if_pos both).symm
      refine congrArg₂ bucket ?_ ?_
      · show q.val % 128 % 32 = (q.val - 1024) % 32; omega
      · show k.val % 1024 % 32 = (k.val - 1024) % 32; omega
    · refine Eq.trans ?_ (if_pos both).symm
      refine congrArg₂ bucket ?_ ?_
      · show 4 * ((q.val / 128 - 8) % 8) + q.val % 128 / 32 % 4 = (q.val - 1024) / 32; omega
      · show k.val % 1024 / 32 = (k.val - 1024) / 32; omega
  · exact (if_neg hk).trans (row_bias hd h _ _ _ (.inr (by omega)) (distanceBucket_same.trans (if_neg (by omega)).symm))

theorem assembled_bias (hd : RowHolds t0 t1 t2 d) (ha : ColumnsHold t0 t1 a) (hb : RowsHold t2 b) (hg : g = bands d)
    (h : Fin 12) (q k : Fin 2048) :
    assembled d a b g (ix4 (n0 := 1) (n1 := 12) (n2 := 2048) (n3 := 2048) 0 h q k) = bias t0 t1 t2 h q.val k.val := by
  have lq : q.val < 2048 := q.isLt
  by_cases hq : q.val < 1024
  · exact (congrFun (if_pos (show q.val / 128 < 8 by omega)) _).trans (text_rows hd hg h q k hq)
  · exact (congrFun (if_neg (show ¬ q.val / 128 < 8 by omega)) _).trans (image_rows hd ha hb h q k hq)

end Assembly

/-! ## The constant tables, entry by entry -/

theorem distance_word (b : Fin 32) (j : Fin 2048) :
    lit0 (S32x2048.rowMajor (ix2 (n0 := 32) (n1 := 2048) b j)) = oneAt (distanceBucket j.val) b.val := by
  have e : (S32x2048.rowMajor (ix2 (n0 := 32) (n1 := 2048) b j)).val = b.val * 2048 + j.val := Shape.rowMajor_val_two _
  have hb := b.isLt
  have hj := j.isLt
  have key : DistanceEntry (b.val * 2048 + j.val) := by
    by_cases hl : b.val < 16
    · exact of_blocks distances_before _ (by omega) (by omega)
    · exact of_blocks distances_after _ (by omega) (by omega)
  refine (congrArg lit0t e).trans (key.trans ?_)
  rw [show (b.val * 2048 + j.val) % 2048 = j.val by omega, show (b.val * 2048 + j.val) / 2048 = b.val by omega]

theorem column_word (b : Fin 32) (j : Fin 1024) :
    lit2 (S32x1024.rowMajor (ix2 (n0 := 32) (n1 := 1024) b j)) = oneAt (j.val % 32) b.val := by
  have e : (S32x1024.rowMajor (ix2 (n0 := 32) (n1 := 1024) b j)).val = b.val * 1024 + j.val := Shape.rowMajor_val_two _
  have hb := b.isLt
  have hj := j.isLt
  have key : ColumnEntry (b.val * 1024 + j.val) := of_blocks columns_checked _ (by omega) (by omega)
  refine (congrArg lit2t e).trans (key.trans ?_)
  rw [show (b.val * 1024 + j.val) % 1024 = j.val by omega, show (b.val * 1024 + j.val) / 1024 = b.val by omega]

theorem row_word (b : Fin 32) (j : Fin 1024) :
    lit3 (S32x1024.rowMajor (ix2 (n0 := 32) (n1 := 1024) b j)) = oneAt (j.val / 32) b.val := by
  have e : (S32x1024.rowMajor (ix2 (n0 := 32) (n1 := 1024) b j)).val = b.val * 1024 + j.val := Shape.rowMajor_val_two _
  have hb := b.isLt
  have hj := j.isLt
  have key : RowEntry (b.val * 1024 + j.val) := of_blocks rows_checked _ (by omega) (by omega)
  refine (congrArg lit3t e).trans (key.trans ?_)
  rw [show (b.val * 1024 + j.val) % 1024 = j.val by omega, show (b.val * 1024 + j.val) / 1024 = b.val by omega]

theorem pixel_word (j : Fin 1024) :
    lit1 (S1x1024.rowMajor (ix2 (n0 := 1) (n1 := 1024) 0 j)) = BitVec.ofNat 32 (bucket (j.val / 32) (j.val % 32)) := by
  have e : (S1x1024.rowMajor (ix2 (n0 := 1) (n1 := 1024) 0 j)).val = 0 * 1024 + j.val := Shape.rowMajor_val_two _
  rw [Nat.zero_mul, Nat.zero_add] at e
  exact (congrArg lit1 (Fin.ext e : S1x1024.rowMajor (ix2 (n0 := 1) (n1 := 1024) 0 j) = (j : Fin 1024))).trans (pixel_entry j)

/-! ## The kernel's result -/

section Result
variable (m : (ℓ : Loc nD τ sig) → Buf (Elt Ideal) ℓ) (ρ : Dev nD → PrngReg) (c : Dev nD)

/-- The three arguments as tables. -/
abbrev arg0 : Table := m ((c : Thread nD τ).loc main_arg0)
abbrev arg1 : Table := m ((c : Thread nD τ).loc main_arg1)
abbrev arg2 : Table := m ((c : Thread nD τ).loc main_arg2)

theorem row_holds : RowHolds (arg0 m c) (arg1 m c) (arg2 m c) (V3 m ρ c main_call0_v0_0) := by
  intro h j
  rw [V3_row, array0_7, V1_arg0, V1_arg1, V1_arg2, V1_cst]
  exact distRow_at _ _ _ _ (fun b j => congrArg (Ideal.ofBits .f32) (distance_word b j)) h j

theorem columns_hold : ColumnsHold (arg0 m c) (arg1 m c) (V3 m ρ c main_call0_v1) := by
  intro h r j
  have hr := r.isLt
  have hj := j.isLt
  rw [V3_v1, array0_8, V1_arg0, V1_arg1, V1_c, V1_cst_0]
  refine (shapeCast_apply _ _ _ (ix2 (n0 := 12) (n1 := 32768) h ⟨r.val * 1024 + j.val, by omega⟩) ?_).trans ?_
  · rw [Shape.rowMajor_val_two, Shape.rowMajor_val_three]
    show h.val * 32768 + (r.val * 1024 + j.val) = (h.val * 32 + r.val) * 1024 + j.val
    omega
  refine (tileRow_at _ _ (· % 32) (fun j _ => Nat.mod_lt _ (by decide)) (fun b j => congrArg (Ideal.ofBits .f32) (column_word b j)) h _
    ⟨32 * r.val + j.val % 32, by omega⟩ (by show 32 * r.val + j.val % 32 = 32 * ((r.val * 1024 + j.val) / 1024) + (r.val * 1024 + j.val) % 1024 % 32; omega)).trans ?_
  refine rowPart_at _ _ _ h _ _ (bucket_lt _ _) ((pixel_word _).trans ?_)
  refine congrArg (BitVec.ofNat 32) (congrArg₂ bucket ?_ ?_)
  · show (32 * r.val + j.val % 32) / 32 = r.val; omega
  · show (32 * r.val + j.val % 32) % 32 = j.val % 32; omega

theorem rows_hold : RowsHold (arg2 m c) (V3 m ρ c main_call0_v2) := by
  intro h x y j
  have hx := x.isLt
  have hy := y.isLt
  have hj := j.isLt
  rw [V3_v2, array0_9, V1_arg2, V1_c, V1_cst_1]
  refine (shapeCast_apply _ _ _ (ix2 (n0 := 12) (n1 := 32768) h ⟨(4 * x.val + y.val) * 1024 + j.val, by omega⟩) ?_).trans ?_
  · rw [Shape.rowMajor_val_two, Shape.rowMajor_val_four]
    show h.val * 32768 + ((4 * x.val + y.val) * 1024 + j.val) = ((h.val * 8 + x.val) * 4 + y.val) * 1024 + j.val
    omega
  refine (tileRow_at _ _ (· / 32) (fun j hj => by show j / 32 < 32; omega) (fun b j => congrArg (Ideal.ofBits .f32) (row_word b j)) h _
    ⟨32 * (4 * x.val + y.val) + j.val / 32, by omega⟩
    (by show 32 * (4 * x.val + y.val) + j.val / 32 = 32 * (((4 * x.val + y.val) * 1024 + j.val) / 1024) + ((4 * x.val + y.val) * 1024 + j.val) % 1024 / 32; omega)).trans ?_
  refine colPart_at _ _ h _ _ (bucket_lt _ _) ((pixel_word _).trans ?_)
  refine congrArg (BitVec.ofNat 32) (congrArg₂ bucket ?_ ?_)
  · show (32 * (4 * x.val + y.val) + j.val / 32) / 32 = 4 * x.val + y.val; omega
  · show (32 * (4 * x.val + y.val) + j.val / 32) % 32 = j.val / 32; omega

theorem result_at (h : Fin 12) (q k : Fin 2048) :
    (dat1 (V3 m ρ) c).arrAt 4 cfg1.N (ix4 (n0 := 1) (n1 := 12) (n2 := 2048) (n3 := 2048) 0 h q k)
      = bias (arg0 m c) (arg1 m c) (arg2 m c) h q.val k.val := by
  rw [array1_4]
  exact assembled_bias (row_holds m ρ c) (columns_hold m ρ c) (rows_hold m ρ c)
    (by rw [V3_bands, V3_row, array0_10, array0_7]) h q k

end Result

end Cert.Proof.Equation

end
-- ==== Proof.Reference.lean ====
/- The reference's result, entry by entry: the three tables at the buckets of the three relative positions, summed. -/
module

public import proofs.«01_k».proof.Proof.Words
public import proofs.«01_k».proof.Proof.Gen.ReferenceIdeal.Run
public import Idealize.ShloMosaic.Lib.Pipeline.Value
public import Idealize.ShloMosaic.Lib.Pointwise.Index

@[expose] public section

set_option maxRecDepth 16384

noncomputable section

namespace Cert.Proof.Ref

open Idealize.ShloMosaic Idealize.SL.Sem Idealize.ShloMosaic.TcCoe Idealize.ShloMosaic.StableHlo Cert.ReferenceIdeal Cert.ReferenceIdeal.Gen

/-! ## The reference's term, named part by part -/

/-- A number at every token. -/
abbrev every (w : BitVec 32) : IVec S2048 32 := broadcastInDim S2048 ![] bcast_S_S2048 (constantI S_ 32 w)
/-- The tokens' positions. -/
abbrev position : IVec S2048 32 := iotaInDim S2048 32 0
/-- Which tokens are text. -/
abbrev isText : IVec S2048 1 := cmpi .slt position (every 1024#32)
/-- The number of the pixel at a token. -/
abbrev pixel : IVec S2048 32 := maxsi (subi position (every 1024#32)) (every 0#32)
abbrev column : IVec S2048 32 := Host.remsi pixel (every 32#32)
abbrev row : IVec S2048 32 := Host.divsi pixel (every 32#32)

variable {α : Type}
/-- A token's value down the queries and one across the keys. -/
abbrev down (x : S2048.Idx → α) : S2048x2048.Idx → α :=
  broadcastInDim S2048x2048 ![0, 1] bcast_S2048x1_S2048x2048_0_1 (broadcastInDim S2048x1 ![0] bcast_S2048_S2048x1_0 x)
abbrev across (x : S2048.Idx → α) : S2048x2048.Idx → α :=
  broadcastInDim S2048x2048 ![0, 1] bcast_S1x2048_S2048x2048_0_1 (broadcastInDim S1x2048 ![1] bcast_S2048_S1x2048_1 x)
/-- A number at every pair of tokens. -/
abbrev pairs (w : BitVec 32) : IVec S2048x2048 32 := broadcastInDim S2048x2048 ![] bcast_S_S2048x2048 (constantI S_ 32 w)
abbrev pairsF (w : BitVec 32) : FVec Ideal S2048x2048 .f32 :=
  broadcastInDim S2048x2048 ![] bcast_S_S2048x2048 (constant (F := Ideal) S_ .f32 w)

/-- The relative positions on an axis. -/
def relative (on : IVec S2048 1) (x : IVec S2048 32) : IVec S2048x2048 32 :=
  select (andi (down on) (across on)) (subi (across x) (down x))
    (broadcastInDim S2048x2048 ![] bcast_S_S2048x2048 (id (constantI S_ 32 0#32)))

/-- The buckets of relative positions. -/
def buckets (r : IVec S2048x2048 32) : IVec S2048x2048 32 :=
  addi (muli (extui 32 (cmpi .slt (negi r) (pairs 0#32)) natLt_1_32) (pairs 16#32))
    (select (cmpi .slt (absi (negi r)) (pairs 8#32)) (absi (negi r))
      (minsi (addi (pairs 8#32) (fptosi 32 (mulf (Host.divf (Host.log (addf (Host.divf (sitofp .f32 (absi (negi r)))
          (pairsF 0x41000000#32)) (pairsF 0x358637BD#32)))
          (broadcastInDim S2048x2048 ![] bcast_S_S2048x2048 (Host.log (constant (F := Ideal) S_ .f32 0x41800000#32))))
          (pairsF 0x41000000#32)))) (pairs 15#32)))

/-- A table's entries at the buckets. -/
def looked (t : FVec Ideal S12x32 .f32) (b : IVec S2048x2048 32) : FVec Ideal S12x2048x2048 .f32 :=
  Host.gather gather_S12x32_S2048x2048x1_S12x2048x2048_0_1_n_n_1_2_121 t
    (broadcastInDim S2048x2048x1 ![0, 1] bcast_S2048x2048_S2048x2048x1_0_1 b)

theorem result_parts (m : (ℓ : Loc nD τ sig) → Buf (Elt Ideal) ℓ) (c : Dev nD) :
    Value.res_main_v135 (F := Ideal) m c = broadcastInDim S1x12x2048x2048 ![1, 2, 3] bcast_S12x2048x2048_S1x12x2048x2048_1_2_3
      (addf (addf (looked (m ((c.tc : Thread nD τ).loc main_arg0)) (buckets (relative isText position)))
        (looked (m ((c.tc : Thread nD τ).loc main_arg1)) (buckets (relative (noti isText) column))))
        (looked (m ((c.tc : Thread nD τ).loc main_arg2)) (buckets (relative (noti isText) row)))) := by
  unfold Value.res_main_v135 looked buckets relative
  rfl

/-! ## The parts at an index -/

theorem buckets_apply (r : IVec S2048x2048 32) (y : S2048x2048.Idx) : buckets r y = bucketWord (r y) := rfl

theorem down_apply (x : S2048.Idx → α) (y : S2048x2048.Idx) : down x y = x (ix1 (y 0)) :=
  (broadcastInDim_apply _ _ _ _ (ix2 (n0 := 2048) (n1 := 1) (y 0) 0) (fun a => match a with | ⟨0, _⟩ => rfl | ⟨1, _⟩ => rfl)).trans
    (broadcastInDim_apply _ _ _ _ _ (fun a => match a with | ⟨0, _⟩ => rfl))
theorem across_apply (x : S2048.Idx → α) (y : S2048x2048.Idx) : across x y = x (ix1 (y 1)) :=
  (broadcastInDim_apply _ _ _ _ (ix2 (n0 := 1) (n1 := 2048) 0 (y 1)) (fun a => match a with | ⟨0, _⟩ => rfl | ⟨1, _⟩ => rfl)).trans
    (broadcastInDim_apply _ _ _ _ _ (fun a => match a with | ⟨0, _⟩ => rfl))

theorem relative_apply (on : IVec S2048 1) (x : IVec S2048 32) (y : S2048x2048.Idx) :
    relative on x y = Scalar.select (on (ix1 (y 0)) &&& on (ix1 (y 1))) (x (ix1 (y 1)) - x (ix1 (y 0))) 0#32 := by
  show Scalar.select (down on y &&& across on y) (across x y - down x y) 0#32 = _
  rw [down_apply, across_apply, down_apply, across_apply]

/-- The dimension numbers of the three lookups. -/
abbrev dims := gather_S12x32_S2048x2048x1_S12x2048x2048_0_1_n_n_1_2_121

theorem start_head (y : S12x2048x2048.Idx) (idx : IVec S2048x2048x1 32) : dims.start y idx 0 = 0 := by
  unfold GatherDims.start
  exact dif_neg (show ¬ (0 : Fin 2) ∈ dims.startIndexMap by decide)
theorem offset_head (y : S12x2048x2048.Idx) : dims.offCoord y 0 = (y 0).val := by
  unfold GatherDims.offCoord
  rw [dif_pos (show (0 : Fin 2) ∈ dims.sKept by decide)]
  rfl
theorem start_bucket (y : S12x2048x2048.Idx) (idx : IVec S2048x2048x1 32) :
    dims.start y idx 1 = min (idx (ix3 (n0 := 2048) (n1 := 2048) (n2 := 1) (y 1) (y 2) 0)).toInt.toNat 31 := by
  unfold GatherDims.start
  rw [dif_pos (show (1 : Fin 2) ∈ dims.startIndexMap from List.mem_singleton.mpr rfl)]
  have e : dims.siIdx y ⟨List.idxOf (1 : Fin 2) dims.startIndexMap, List.idxOf_lt_length_iff.2 (List.mem_singleton.mpr rfl)⟩
      = ix3 (n0 := 2048) (n1 := 2048) (n2 := 1) (y 1) (y 2) 0 := by
    funext b; refine Fin.ext ?_
    match b with
    | ⟨0, _⟩ => rfl
    | ⟨1, _⟩ => rfl
    | ⟨2, _⟩ => rfl
  rw [e]
  rfl

/-- The table read at the bucket's column. -/
theorem looked_apply (t : FVec Ideal S12x32 .f32) (b : IVec S2048x2048 32) (y : S12x2048x2048.Idx) :
    looked t b y = t (ix2 (n0 := 12) (n1 := 32) (y 0)
      ⟨min (b (ix2 (n0 := 2048) (n1 := 2048) (y 1) (y 2))).toInt.toNat 31, by omega⟩) := by
  unfold looked Host.gather
  refine congrArg t (funext fun a => Fin.ext ?_)
  show dims.start y _ a + dims.batchCoord y a + dims.offCoord y a = _
  have hb : dims.batchCoord y a = 0 := GatherDims.batchCoord_eq_zero _ _ _ List.not_mem_nil
  match a, hb with
  | ⟨0, _⟩, hb =>
    refine (congrArg₂ (· + ·) (congrArg₂ (· + ·) (start_head y _) hb) (offset_head y)).trans ?_
    show 0 + 0 + (y 0).val = (y 0).val
    omega
  | ⟨1, _⟩, hb =>
    refine (congrArg₂ (· + ·) (congrArg₂ (· + ·) (start_bucket y _) hb)
      (GatherDims.offCoord_eq_zero dims y 1 (fun h => ((GatherDims.mem_sKept _ _).mp h).1 (List.mem_singleton.mpr rfl)))).trans ?_
    refine congrArg (fun w : BitVec 32 => min w.toInt.toNat 31) ?_
    exact broadcastInDim_apply _ _ _ _ _ (fun a => match a with | ⟨0, _⟩ => rfl | ⟨1, _⟩ => rfl)

/-! ## The tokens' words -/

/-- Whether a token is text, and its pixel's column and row, as numbers. -/
theorem token_words : ∀ p : Fin 2048,
    IntOp.cmpi .slt (BitVec.ofNat 32 p.val) 1024#32 = BitVec.ofBool (decide (p.val < 1024))
      ∧ IntOp.remsi .host (IntOp.maxsi (BitVec.ofNat 32 p.val - 1024#32) 0#32) 32#32 = BitVec.ofNat 32 (columnOf (p.val - 1024))
      ∧ IntOp.divsi .host (IntOp.maxsi (BitVec.ofNat 32 p.val - 1024#32) 0#32) 32#32 = BitVec.ofNat 32 (rowOf (p.val - 1024)) := by
  decide +kernel

theorem isText_at (p : Fin 2048) : isText (ix1 p) = BitVec.ofBool (decide (p.val < 1024)) := (token_words p).1
theorem column_at (p : Fin 2048) : column (ix1 p) = BitVec.ofNat 32 (columnOf (p.val - 1024)) := (token_words p).2.1
theorem row_at (p : Fin 2048) : row (ix1 p) = BitVec.ofNat 32 (rowOf (p.val - 1024)) := (token_words p).2.2

theorem text_word (q k : Fin 2048) :
    buckets (relative isText position) (ix2 q k) = BitVec.ofNat 32 (textBucket q.val k.val) := by
  rw [buckets_apply, relative_apply]
  show bucketWord (Scalar.select (isText (ix1 q) &&& isText (ix1 k)) (BitVec.ofNat 32 k.val - BitVec.ofNat 32 q.val) 0#32) = _
  rw [isText_at, isText_at]
  unfold textBucket Scalar.select
  by_cases hq : q.val < 1024 <;> by_cases hk : k.val < 1024 <;> simp only [hq, hk, decide_true, decide_false, and_self, and_true,
    and_false, if_true, if_false]
  · exact bucketWord_sub _ _ hq hk
  all_goals exact bucketWord_zero

theorem image_word (x : IVec S2048 32) (axis : ℕ → ℕ) (hx : ∀ p : Fin 2048, x (ix1 p) = BitVec.ofNat 32 (axis (p.val - 1024)))
    (ha : ∀ i, i < 1024 → axis i < 1024) (q k : Fin 2048) :
    buckets (relative (noti isText) x) (ix2 q k) = BitVec.ofNat 32 (imageBucket axis q.val k.val) := by
  rw [buckets_apply, relative_apply]
  show bucketWord (Scalar.select (~~~ (isText (ix1 q)) &&& ~~~ (isText (ix1 k))) (x (ix1 k) - x (ix1 q)) 0#32) = _
  rw [isText_at, isText_at, hx, hx]
  unfold imageBucket Scalar.select
  by_cases hq : q.val < 1024 <;> by_cases hk : k.val < 1024 <;> simp only [hq, hk, decide_true, decide_false, and_self, and_true,
    and_false, if_true, if_false, not_true_eq_false, not_false_eq_true]
  iterate 3 exact bucketWord_zero
  exact bucketWord_sub _ _ (ha _ (by omega)) (ha _ (by omega))

/-- A table read at a bucket's word. -/
theorem looked_word (t : FVec Ideal S12x32 .f32) (b : IVec S2048x2048 32) (h : Fin 12) (q k : Fin 2048) (n : ℕ) (hn : n < 32)
    (hb : b (ix2 q k) = BitVec.ofNat 32 n) : looked t b (ix3 h q k) = entry t h n hn :=
  (looked_apply t b (ix3 h q k)).trans (congrArg t (congrArg (ix2 (n0 := 12) (n1 := 32) h) (Fin.ext
    ((congrArg (fun w : BitVec 32 => min w.toInt.toNat 31) hb).trans (bucket_index ⟨n, hn⟩)))))

/-- The reference's result. -/
theorem result_at (m : (ℓ : Loc nD τ sig) → Buf (Elt Ideal) ℓ) (c : Dev nD) (h : Fin 12) (q k : Fin 2048) :
    Value.res_main_v135 (F := Ideal) m c (ix4 (n0 := 1) (n1 := 12) (n2 := 2048) (n3 := 2048) 0 h q k)
      = bias (m ((c.tc : Thread nD τ).loc main_arg0)) (m ((c.tc : Thread nD τ).loc main_arg1))
          (m ((c.tc : Thread nD τ).loc main_arg2)) h q.val k.val := by
  refine (congrFun (result_parts m c) _).trans ?_
  refine (broadcastInDim_apply _ _ _ _ (ix3 (n0 := 12) (n1 := 2048) (n2 := 2048) h q k)
    (fun a => match a with | ⟨0, _⟩ => rfl | ⟨1, _⟩ => rfl | ⟨2, _⟩ => rfl)).trans ?_
  exact congrArg₂ (· + ·) (congrArg₂ (· + ·)
    (looked_word _ _ h q k _ (textBucket_lt _ _) (text_word q k))
    (looked_word _ _ h q k _ (imageBucket_lt _ _ _) (image_word column columnOf column_at (fun i hi => by unfold columnOf; omega) q k)))
    (looked_word _ _ h q k _ (imageBucket_lt _ _ _) (image_word row rowOf row_at (fun i hi => by unfold rowOf; omega) q k))

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.SameText
public import proofs.«01_k».proof.Proof.Launch
public import proofs.«01_k».proof.Proof.Equation
public import proofs.«01_k».proof.Proof.Reference
public import Idealize.ShloMosaic.Adequacy
public import Idealize.ShloMosaic.Init

@[expose] public section

noncomputable section

namespace Cert.Proof

open Idealize.ShloMosaic Idealize.SL.Sem

/-- The idealized kernel keeps its arguments and leaves every counter at zero. -/
theorem keeps (F : FTy → Type) [FloatOps F] : KeepsArguments F := fun m g =>
  (θ_run _ _ _).mono (fun _ h => ⟨fun c => (h.1 c).2, h.2⟩) (Run.runs (F := F) m g)

/-- The reference program has no semaphore, and keeps its arguments. -/
theorem reference_keeps : Cert.quiescent_ReferenceIdeal (hReferenceIdeal := Cert.ReferenceIdeal.Gen.facts) := fun m g _ =>
  letI := Cert.ReferenceIdeal.Gen.facts
  (θ_run _ _ _).mono (fun _ h => ⟨fun c => (h c).2, sem_eq_zero_of_no_sems (by decide) _⟩)
    (Cert.ReferenceIdeal.Value.run (F := Ideal) m g)

/-- The two programs end with the same result: at every head, query and key, the three tables' entries at the three buckets, summed. -/
theorem equal_results : Cert.algebraic_KernelIdeal_ReferenceIdeal (hKernelIdeal := Cert.KernelIdeal.Gen.facts)
    (hReferenceIdeal := Cert.ReferenceIdeal.Gen.facts) := fun m g m' g' _ same =>
  letI := Cert.KernelIdeal.Gen.facts
  letI := Cert.ReferenceIdeal.Gen.facts
  ⟨fun c => (Run.dat1 (Run.V3 m g) c).arrAt 4 Cert.KernelIdeal.cfg1.N,
    (θ_run _ _ _).mono (fun _ h => h.1) (Run.runs (F := Ideal) m g),
    (θ_run _ _ _).mono (fun _ h c => ⟨(h c).1.trans (funext fun i => by
        have e : i = ix4 (n0 := 1) (n1 := 12) (n2 := 2048) (n3 := 2048) 0 (i 1) (i 2) (i 3) := by
          funext a
          match a with
          | ⟨0, _⟩ => exact Subsingleton.elim (α := Fin 1) _ _
          | ⟨1, _⟩ => rfl
          | ⟨2, _⟩ => rfl
          | ⟨3, _⟩ => rfl
        obtain ⟨s0, s1, s2⟩ := same c
        refine (congrArg _ e).trans ((Ref.result_at m' c (i 1) (i 2) (i 3)).trans ?_)
        rw [s0, s1, s2]
        exact ((congrArg _ e).trans (Equation.result_at m g c (i 1) (i 2) (i 3))).symm), (h c).2⟩)
      (Cert.ReferenceIdeal.Value.run (F := Ideal) m' g')⟩

theorem claim : Cert.Claim := ⟨Cert.Kernel.Gen.facts, Cert.KernelIdeal.Gen.facts, Cert.ReferenceIdeal.Gen.facts,
  kernel_of_ideal_text (keeps Bits), fun m g _ => keeps Ideal m g, reference_keeps, trivial, equal_results⟩

end Cert.Proof

end
